-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x128 : Shape := ⟨2, ![1024, 128]⟩
abbrev S8192 : Shape := ⟨1, ![8192]⟩
abbrev S8x128 : Shape := ⟨2, ![8, 128]⟩
abbrev S128 : Shape := ⟨1, ![128]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S1024x128 .f32) (main_arg1 : IVec S8192 32) (main_arg2 : IVec S8192 32) (main_arg3 : FVec F S8x128 .f32) (main_arg4 : FVec F S128 .f32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 1 := constantI S_ 1 1#1
  let main_v2 : IVec S_ 1 := (fun x v => Host.reduce IntOp.andi x v reducesTo_S8192_S_d0 h_S_) main_v1 main_c_0
  let main_c_1 : IVec S_ 32 := constantI S_ 32 1024#32
  let main_v3 : IVec S8192 32 := broadcastInDim S8192 ![] bcast_S_S8192 main_c_1
  let main_v4 : IVec S8192 1 := cmpi .slt main_arg1 main_v3
  let main_c_2 : IVec S_ 1 := constantI S_ 1 1#1
  let main_v5 : IVec S_ 1 := (fun x v => Host.reduce IntOp.andi x v reducesTo_S8192_S_d0 h_S_) main_v4 main_c_2
  let main_v6 : IVec S_ 1 := andi main_v2 main_v5
  let main_c_3 : IVec S_ 32 := constantI S_ 32 0#32
  let main_v7 : IVec S8192 32 := broadcastInDim S8192 ![] bcast_S_S8192 main_c_3
  let main_v8 : IVec S8192 1 := cmpi .sge main_arg2 main_v7
  let main_c_4 : IVec S_ 1 := constantI S_ 1 1#1
  let main_v9 : IVec S_ 1 := (fun x v => Host.reduce IntOp.andi x v reducesTo_S8192_S_d0 h_S_) main_v8 main_c_4
  let main_v10 : IVec S_ 1 := andi main_v6 main_v9
  let main_c_5 : IVec S_ 32 := constantI S_ 32 1024#32
  let main_v11 : IVec S8192 32 := broadcastInDim S8192 ![] bcast_S_S8192 main_c_5
  let main_v12 : IVec S8192 1 := cmpi .slt main_arg2 main_v11
  let main_c_6 : IVec S_ 1 := constantI S_ 1 1#1
  let main_v13 : IVec S_ 1 := (fun x v => Host.reduce IntOp.andi x v reducesTo_S8192_S_d0 h_S_) main_v12 main_c_6
  let main_v14 : IVec S_ 1 := andi main_v10 main_v13
  main_v14
-- ==== Kernel.lean ====
abbrev S1024x128 : Shape := ⟨2, ![1024, 128]⟩
abbrev S8192 : Shape := ⟨1, ![8192]⟩
abbrev S8x128 : Shape := ⟨2, ![8, 128]⟩
abbrev S128 : Shape := ⟨1, ![128]⟩
abbrev S_ : Shape := ⟨0, ![]⟩
abbrev S64x1024 : Shape := ⟨2, ![64, 1024]⟩
abbrev S2x1024x1024 : Shape := ⟨3, ![2, 1024, 1024]⟩
abbrev S4096 : Shape := ⟨1, ![4096]⟩
abbrev S16 : Shape := ⟨1, ![16]⟩
abbrev S1x64x1024 : Shape := ⟨3, ![1, 64, 1024]⟩
abbrev S1x128 : Shape := ⟨2, ![1, 128]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Table → Nat
  | .hbm => 10
  | .local .tc .vmem => 4
  | .local .scVector .vmem => 3
  | _ => 0

abbrev bufTy : (tb : Table) → Fin (nBuf tb) → BufTy
  | .hbm, ⟨0, _⟩ => ⟨S1024x128, .f32⟩
  | .hbm, ⟨1, _⟩ => ⟨S8192, .i32⟩
  | .hbm, ⟨2, _⟩ => ⟨S8192, .i32⟩
  | .hbm, ⟨3, _⟩ => ⟨S8x128, .f32⟩
  | .hbm, ⟨4, _⟩ => ⟨S128, .f32⟩
  | .hbm, ⟨5, _⟩ => ⟨S_, .f32⟩
  | .hbm, ⟨6, _⟩ => ⟨S64x1024, .f32⟩
  | .hbm, ⟨7, _⟩ => ⟨S2x1024x1024, .f32⟩
  | .hbm, ⟨8, _⟩ => ⟨S1x128, .f32⟩
  | .hbm, ⟨9, _⟩ => ⟨S1024x128, .f32⟩
  | .local .tc .vmem, ⟨0, _⟩ => ⟨S2x1024x1024, .f32⟩
  | .local .tc .vmem, ⟨1, _⟩ => ⟨S8x128, .f32⟩
  | .local .tc .vmem, ⟨2, _⟩ => ⟨S1x128, .f32⟩
  | .local .tc .vmem, ⟨3, _⟩ => ⟨S1024x128, .f32⟩
  | .local .scVector .vmem, ⟨0, _⟩ => ⟨S4096, .i32⟩
  | .local .scVector .vmem, ⟨1, _⟩ => ⟨S4096, .i32⟩
  | .local .scVector .vmem, ⟨2, _⟩ => ⟨S64x1024, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg1_scv : Ref sig .scVector := ⟨.hbm, 1, rfl⟩
abbrev main_arg2_scv : Ref sig .scVector := ⟨.hbm, 2, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem2_0 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c4096_i32 : BitVec 32 := 4096#32
  let v1 : BitVec 32 := Scalar.muli arg0 c4096_i32
  ![v1.toNat]
@[reducible] def k0_t1_loop : Scf.Loop 32 :=
  let c0_i32_1 : BitVec 32 := 0#32
  let c256_i32 : BitVec 32 := 256#32
  let v13 : BitVec 32 := Scalar.addi c0_i32_1 c256_i32
  let c1_i32 : BitVec 32 := 1#32
  ⟨c0_i32_1, v13, c1_i32⟩
def k0_off2 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32 : BitVec 32 := 16#32
  let v14 : BitVec 32 := Scalar.muli arg12 c16_i32
  let v15 : Index := Scalar.indexCast v14
  ![v15.toNat]

def k0_chk1 (v19 : IVec S16 32) (v29 : IVec S16 32) : Prop :=
  (∀ a x, ((![v29, v19] : Fin 2 → IVec S16 32) a x).toNat < S64x1024.size a)
theorem k0_idx1_inb : ∀ (v19 : IVec S16 32) (v29 : IVec S16 32) (k0_hw1 : k0_chk1 v19 v29), ∀ a x, ((![v29, v19] : Fin 2 → IVec S16 32) a x).toNat < S64x1024.size a := fun v19 v29 k0_hw1 => k0_hw1

def k0_chk2 (v19 : IVec S16 32) (v36 : IVec S16 32) : Prop :=
  (∀ a x, ((![v36, v19] : Fin 2 → IVec S16 32) a x).toNat < S64x1024.size a)
theorem k0_idx2_inb : ∀ (v19 : IVec S16 32) (v36 : IVec S16 32) (k0_hw2 : k0_chk2 v19 v36), ∀ a x, ((![v36, v19] : Fin 2 → IVec S16 32) a x).toNat < S64x1024.size a := fun v19 v36 k0_hw2 => k0_hw2

def k0_chk3 (v19 : IVec S16 32) (v43 : IVec S16 32) : Prop :=
  (∀ a x, ((![v43, v19] : Fin 2 → IVec S16 32) a x).toNat < S64x1024.size a)
theorem k0_idx3_inb : ∀ (v19 : IVec S16 32) (v43 : IVec S16 32) (k0_hw3 : k0_chk3 v19 v43), ∀ a x, ((![v43, v19] : Fin 2 → IVec S16 32) a x).toNat < S64x1024.size a := fun v19 v43 k0_hw3 => k0_hw3

def k0_chk4 (v19 : IVec S16 32) (v50 : IVec S16 32) : Prop :=
  (∀ a x, ((![v50, v19] : Fin 2 → IVec S16 32) a x).toNat < S64x1024.size a)
theorem k0_idx4_inb : ∀ (v19 : IVec S16 32) (v50 : IVec S16 32) (k0_hw4 : k0_chk4 v19 v50), ∀ a x, ((![v50, v19] : Fin 2 → IVec S16 32) a x).toNat < S64x1024.size a := fun v19 v50 k0_hw4 => k0_hw4

def k0_chk5 (v19 : IVec S16 32) (v57 : IVec S16 32) : Prop :=
  (∀ a x, ((![v57, v19] : Fin 2 → IVec S16 32) a x).toNat < S64x1024.size a)
theorem k0_idx5_inb : ∀ (v19 : IVec S16 32) (v57 : IVec S16 32) (k0_hw5 : k0_chk5 v19 v57), ∀ a x, ((![v57, v19] : Fin 2 → IVec S16 32) a x).toNat < S64x1024.size a := fun v19 v57 k0_hw5 => k0_hw5

def k0_chk6 (v19 : IVec S16 32) (v64 : IVec S16 32) : Prop :=
  (∀ a x, ((![v64, v19] : Fin 2 → IVec S16 32) a x).toNat < S64x1024.size a)
theorem k0_idx6_inb : ∀ (v19 : IVec S16 32) (v64 : IVec S16 32) (k0_hw6 : k0_chk6 v19 v64), ∀ a x, ((![v64, v19] : Fin 2 → IVec S16 32) a x).toNat < S64x1024.size a := fun v19 v64 k0_hw6 => k0_hw6

def k0_chk7 (v19 : IVec S16 32) (v71 : IVec S16 32) : Prop :=
  (∀ a x, ((![v71, v19] : Fin 2 → IVec S16 32) a x).toNat < S64x1024.size a)
theorem k0_idx7_inb : ∀ (v19 : IVec S16 32) (v71 : IVec S16 32) (k0_hw7 : k0_chk7 v19 v71), ∀ a x, ((![v71, v19] : Fin 2 → IVec S16 32) a x).toNat < S64x1024.size a := fun v19 v71 k0_hw7 => k0_hw7

def k0_chk8 (v19 : IVec S16 32) (v78 : IVec S16 32) : Prop :=
  (∀ a x, ((![v78, v19] : Fin 2 → IVec S16 32) a x).toNat < S64x1024.size a)
theorem k0_idx8_inb : ∀ (v19 : IVec S16 32) (v78 : IVec S16 32) (k0_hw8 : k0_chk8 v19 v78), ∀ a x, ((![v78, v19] : Fin 2 → IVec S16 32) a x).toNat < S64x1024.size a := fun v19 v78 k0_hw8 => k0_hw8

def k0_chk9 (v19 : IVec S16 32) (v85 : IVec S16 32) : Prop :=
  (∀ a x, ((![v85, v19] : Fin 2 → IVec S16 32) a x).toNat < S64x1024.size a)
theorem k0_idx9_inb : ∀ (v19 : IVec S16 32) (v85 : IVec S16 32) (k0_hw9 : k0_chk9 v19 v85), ∀ a x, ((![v85, v19] : Fin 2 → IVec S16 32) a x).toNat < S64x1024.size a := fun v19 v85 k0_hw9 => k0_hw9

def k0_chk10 (v19 : IVec S16 32) (v92 : IVec S16 32) : Prop :=
  (∀ a x, ((![v92, v19] : Fin 2 → IVec S16 32) a x).toNat < S64x1024.size a)
theorem k0_idx10_inb : ∀ (v19 : IVec S16 32) (v92 : IVec S16 32) (k0_hw10 : k0_chk10 v19 v92), ∀ a x, ((![v92, v19] : Fin 2 → IVec S16 32) a x).toNat < S64x1024.size a := fun v19 v92 k0_hw10 => k0_hw10

def k0_chk11 (v19 : IVec S16 32) (v99 : IVec S16 32) : Prop :=
  (∀ a x, ((![v99, v19] : Fin 2 → IVec S16 32) a x).toNat < S64x1024.size a)
theorem k0_idx11_inb : ∀ (v19 : IVec S16 32) (v99 : IVec S16 32) (k0_hw11 : k0_chk11 v19 v99), ∀ a x, ((![v99, v19] : Fin 2 → IVec S16 32) a x).toNat < S64x1024.size a := fun v19 v99 k0_hw11 => k0_hw11

def k0_chk12 (v19 : IVec S16 32) (v106 : IVec S16 32) : Prop :=
  (∀ a x, ((![v106, v19] : Fin 2 → IVec S16 32) a x).toNat < S64x1024.size a)
theorem k0_idx12_inb : ∀ (v19 : IVec S16 32) (v106 : IVec S16 32) (k0_hw12 : k0_chk12 v19 v106), ∀ a x, ((![v106, v19] : Fin 2 → IVec S16 32) a x).toNat < S64x1024.size a := fun v19 v106 k0_hw12 => k0_hw12

def k0_chk13 (v19 : IVec S16 32) (v113 : IVec S16 32) : Prop :=
  (∀ a x, ((![v113, v19] : Fin 2 → IVec S16 32) a x).toNat < S64x1024.size a)
theorem k0_idx13_inb : ∀ (v19 : IVec S16 32) (v113 : IVec S16 32) (k0_hw13 : k0_chk13 v19 v113), ∀ a x, ((![v113, v19] : Fin 2 → IVec S16 32) a x).toNat < S64x1024.size a := fun v19 v113 k0_hw13 => k0_hw13

def k0_chk14 (v19 : IVec S16 32) (v120 : IVec S16 32) : Prop :=
  (∀ a x, ((![v120, v19] : Fin 2 → IVec S16 32) a x).toNat < S64x1024.size a)
theorem k0_idx14_inb : ∀ (v19 : IVec S16 32) (v120 : IVec S16 32) (k0_hw14 : k0_chk14 v19 v120), ∀ a x, ((![v120, v19] : Fin 2 → IVec S16 32) a x).toNat < S64x1024.size a := fun v19 v120 k0_hw14 => k0_hw14

def k0_chk15 (v19 : IVec S16 32) (v127 : IVec S16 32) : Prop :=
  (∀ a x, ((![v127, v19] : Fin 2 → IVec S16 32) a x).toNat < S64x1024.size a)
theorem k0_idx15_inb : ∀ (v19 : IVec S16 32) (v127 : IVec S16 32) (k0_hw15 : k0_chk15 v19 v127), ∀ a x, ((![v127, v19] : Fin 2 → IVec S16 32) a x).toNat < S64x1024.size a := fun v19 v127 k0_hw15 => k0_hw15

def k0_chk16 (v19 : IVec S16 32) (v134 : IVec S16 32) : Prop :=
  (∀ a x, ((![v134, v19] : Fin 2 → IVec S16 32) a x).toNat < S64x1024.size a)
theorem k0_idx16_inb : ∀ (v19 : IVec S16 32) (v134 : IVec S16 32) (k0_hw16 : k0_chk16 v19 v134), ∀ a x, ((![v134, v19] : Fin 2 → IVec S16 32) a x).toNat < S64x1024.size a := fun v19 v134 k0_hw16 => k0_hw16
def k0_off3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32_3_r0 : BitVec 32 := 0#32
  ![arg0.toNat, v0.toNat, 0]
abbrev grid1 : Pipeline.Grid := .none

abbrev stage1_0 : Fin 1 → Memref sig .tc .vmem S2x1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S8192 : Shape := ⟨1, ![8192]⟩
abbrev S8x128 : Shape := ⟨2, ![8, 128]⟩
abbrev S128 : Shape := ⟨1, ![128]⟩
abbrev S_ : Shape := ⟨0, ![]⟩
abbrev S1024 : Shape := ⟨1, ![1024]⟩
abbrev S8192x1 : Shape := ⟨2, ![8192, 1]⟩
abbrev S1024x1024 : Shape := ⟨2, ![1024, 1024]⟩
abbrev S8192x1024 : Shape := ⟨2, ![8192, 1024]⟩
abbrev S1024x1 : Shape := ⟨2, ![1024, 1]⟩
abbrev S1024x2 : Shape := ⟨2, ![1024, 2]⟩
abbrev S1024x8 : Shape := ⟨2, ![1024, 8]⟩
abbrev S1x128 : Shape := ⟨2, ![1, 128]⟩

abbrev nBuf : Space → Nat
  | .hbm => 379
  | .vmem => 0
  | .smem => 0
  | _ => 0

abbrev hbmTy0_0 (i : Nat) : BufTy := match i % 128 with
  | 0 => ⟨S1024x128, .f32⟩
  | 1 => ⟨S8192, .i32⟩
  | 2 => ⟨S8192, .i32⟩
  | 3 => ⟨S8x128, .f32⟩
  | 4 => ⟨S128, .f32⟩
  | 5 => ⟨S_, .f32⟩
  | 6 => ⟨S8192, .f32⟩
  | 7 => ⟨S_, .f32⟩
  | 8 => ⟨S1024, .f32⟩
  | 9 => ⟨S8192x1, .i32⟩
  | 10 => ⟨S1024, .f32⟩
  | 11 => ⟨S_, .f32⟩
  | 12 => ⟨S1024, .f32⟩
  | 13 => ⟨S1024, .f32⟩
  | 14 => ⟨S1024, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S1024x1024, .i1⟩
  | 21 => ⟨S1024x1024, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x1024, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192, .f32⟩
  | 40 => ⟨S8192x1, .f32⟩
  | 41 => ⟨S8192x1024, .f32⟩
  | 42 => ⟨S8192x1024, .f32⟩
  | 43 => ⟨S_, .f32⟩
  | 44 => ⟨S1024x1024, .f32⟩
  | 45 => ⟨S8192x1, .i32⟩
  | 46 => ⟨S1024x1024, .f32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1024x1, .i32⟩
  | 63 => ⟨S1024x2, .i32⟩
  | 64 => ⟨S1024, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x1024, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192, .f32⟩
  | 83 => ⟨S8192x1, .f32⟩
  | 84 => ⟨S8192x1024, .f32⟩
  | 85 => ⟨S8192x1024, .f32⟩
  | 86 => ⟨S_, .f32⟩
  | 87 => ⟨S1024x1024, .f32⟩
  | 88 => ⟨S8192x1, .i32⟩
  | 89 => ⟨S1024x1024, .f32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S1024x1, .i32⟩
  | 105 => ⟨S1024x1, .i32⟩
  | 106 => ⟨S1024x2, .i32⟩
  | 107 => ⟨S1024, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x1024, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192, .f32⟩
  | 126 => ⟨S8192x1, .f32⟩
  | 127 => ⟨S8192x1024, .f32⟩
  | _ => ⟨S1024x128, .f32⟩

abbrev hbmTy0_1 (i : Nat) : BufTy := match i % 128 with
  | 0 => ⟨S8192x1024, .f32⟩
  | 1 => ⟨S_, .f32⟩
  | 2 => ⟨S1024x1024, .f32⟩
  | 3 => ⟨S8192x1, .i32⟩
  | 4 => ⟨S1024x1024, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S1024x1, .i32⟩
  | 20 => ⟨S1024x1, .i32⟩
  | 21 => ⟨S1024x2, .i32⟩
  | 22 => ⟨S1024, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x1024, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .f32⟩
  | 41 => ⟨S8192x1, .f32⟩
  | 42 => ⟨S8192x1024, .f32⟩
  | 43 => ⟨S8192x1024, .f32⟩
  | 44 => ⟨S_, .f32⟩
  | 45 => ⟨S1024x1024, .f32⟩
  | 46 => ⟨S8192x1, .i32⟩
  | 47 => ⟨S1024x1024, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x1, .i32⟩
  | 64 => ⟨S1024x2, .i32⟩
  | 65 => ⟨S1024, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x1024, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192, .f32⟩
  | 84 => ⟨S8192x1, .f32⟩
  | 85 => ⟨S8192x1024, .f32⟩
  | 86 => ⟨S8192x1024, .f32⟩
  | 87 => ⟨S_, .f32⟩
  | 88 => ⟨S1024x1024, .f32⟩
  | 89 => ⟨S8192x1, .i32⟩
  | 90 => ⟨S1024x1024, .f32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024x1, .i32⟩
  | 107 => ⟨S1024x2, .i32⟩
  | 108 => ⟨S1024, .f32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x1024, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192, .f32⟩
  | 127 => ⟨S8192x1, .f32⟩
  | _ => ⟨S1024x128, .f32⟩

abbrev hbmTy0_2 (i : Nat) : BufTy := match i % 128 with
  | 0 => ⟨S8192x1024, .f32⟩
  | 1 => ⟨S8192x1024, .f32⟩
  | 2 => ⟨S_, .f32⟩
  | 3 => ⟨S1024x1024, .f32⟩
  | 4 => ⟨S8192x1, .i32⟩
  | 5 => ⟨S1024x1024, .f32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024x1, .i32⟩
  | 22 => ⟨S1024x2, .i32⟩
  | 23 => ⟨S1024, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x1024, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192, .f32⟩
  | 42 => ⟨S8192x1, .f32⟩
  | 43 => ⟨S8192x1024, .f32⟩
  | 44 => ⟨S8192x1024, .f32⟩
  | 45 => ⟨S_, .f32⟩
  | 46 => ⟨S1024x1024, .f32⟩
  | 47 => ⟨S8192x1, .i32⟩
  | 48 => ⟨S1024x1024, .f32⟩
  | 49 => ⟨S_, .i32⟩
  | 50 => ⟨S1024, .i32⟩
  | 51 => ⟨S1024, .i1⟩
  | 52 => ⟨S_, .i32⟩
  | 53 => ⟨S1024, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S1024x1, .i32⟩
  | 65 => ⟨S1024x2, .i32⟩
  | 66 => ⟨S1024, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x1024, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192, .f32⟩
  | 85 => ⟨S8192x1, .f32⟩
  | 86 => ⟨S8192x1024, .f32⟩
  | 87 => ⟨S8192x1024, .f32⟩
  | 88 => ⟨S_, .f32⟩
  | 89 => ⟨S1024x1024, .f32⟩
  | 90 => ⟨S8192x1, .i32⟩
  | 91 => ⟨S1024x1024, .f32⟩
  | 92 => ⟨S_, .i32⟩
  | 93 => ⟨S1024, .i32⟩
  | 94 => ⟨S1024, .i1⟩
  | 95 => ⟨S_, .i32⟩
  | 96 => ⟨S1024, .i32⟩
  | 97 => ⟨S1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1024x1, .i32⟩
  | 108 => ⟨S1024x2, .i32⟩
  | 109 => ⟨S1024, .f32⟩
  | 110 => ⟨S1024x1, .f32⟩
  | 111 => ⟨S1024x1, .f32⟩
  | 112 => ⟨S1024x1, .f32⟩
  | 113 => ⟨S1024x1, .f32⟩
  | 114 => ⟨S1024x1, .f32⟩
  | 115 => ⟨S1024x1, .f32⟩
  | 116 => ⟨S1024x1, .f32⟩
  | 117 => ⟨S1024x1, .f32⟩
  | 118 => ⟨S1024x8, .f32⟩
  | 119 => ⟨S1024x128, .f32⟩
  | 120 => ⟨S1x128, .f32⟩
  | 121 => ⟨S1024x128, .f32⟩
  | 122 => ⟨S1024x128, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_13 : Ref sig .tc := ⟨.hbm, 74, rfl⟩
abbrev main_v54 : Ref sig .tc := ⟨.hbm, 75, rfl⟩
abbrev main_v55 : Ref sig .tc := ⟨.hbm, 76, rfl⟩
abbrev main_c_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_16 : Ref sig .tc := ⟨.hbm, 90, rfl⟩
abbrev main_v67 : Ref sig .tc := ⟨.hbm, 91, rfl⟩
abbrev main_v68 : Ref sig .tc := ⟨.hbm, 92, rfl⟩
abbrev main_c_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_18 : Ref sig .tc := ⟨.hbm, 97, rfl⟩
abbrev main_v72 : Ref sig .tc := ⟨.hbm, 98, rfl⟩
abbrev main_v73 : Ref sig .tc := ⟨.hbm, 99, rfl⟩
abbrev main_c_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_20 : Ref sig .tc := ⟨.hbm, 108, rfl⟩
abbrev main_v81 : Ref sig .tc := ⟨.hbm, 109, rfl⟩
abbrev main_v82 : Ref sig .tc := ⟨.hbm, 110, rfl⟩
abbrev main_c_21 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_22 : Ref sig .tc := ⟨.hbm, 117, rfl⟩
abbrev main_v88 : Ref sig .tc := ⟨.hbm, 118, rfl⟩
abbrev main_v89 : Ref sig .tc := ⟨.hbm, 119, rfl⟩
abbrev main_c_23 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_24 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_25 : Ref sig .tc := ⟨.hbm, 133, rfl⟩
abbrev main_v101 : Ref sig .tc := ⟨.hbm, 134, rfl⟩
abbrev main_v102 : Ref sig .tc := ⟨.hbm, 135, rfl⟩
abbrev main_c_26 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_27 : Ref sig .tc := ⟨.hbm, 140, rfl⟩
abbrev main_v106 : Ref sig .tc := ⟨.hbm, 141, rfl⟩
abbrev main_v107 : Ref sig .tc := ⟨.hbm, 142, rfl⟩
abbrev main_c_28 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_29 : Ref sig .tc := ⟨.hbm, 151, rfl⟩
abbrev main_v115 : Ref sig .tc := ⟨.hbm, 152, rfl⟩
abbrev main_v116 : Ref sig .tc := ⟨.hbm, 153, rfl⟩
abbrev main_c_30 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_31 : Ref sig .tc := ⟨.hbm, 160, rfl⟩
abbrev main_v122 : Ref sig .tc := ⟨.hbm, 161, rfl⟩
abbrev main_v123 : Ref sig .tc := ⟨.hbm, 162, rfl⟩
abbrev main_c_32 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_33 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_34 : Ref sig .tc := ⟨.hbm, 176, rfl⟩
abbrev main_v135 : Ref sig .tc := ⟨.hbm, 177, rfl⟩
abbrev main_v136 : Ref sig .tc := ⟨.hbm, 178, rfl⟩
abbrev main_c_35 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_36 : Ref sig .tc := ⟨.hbm, 183, rfl⟩
abbrev main_v140 : Ref sig .tc := ⟨.hbm, 184, rfl⟩
abbrev main_v141 : Ref sig .tc := ⟨.hbm, 185, rfl⟩
abbrev main_c_37 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_c_38 : Ref sig .tc := ⟨.hbm, 194, rfl⟩
abbrev main_v149 : Ref sig .tc := ⟨.hbm, 195, rfl⟩
abbrev main_v150 : Ref sig .tc := ⟨.hbm, 196, rfl⟩
abbrev main_c_39 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_c_40 : Ref sig .tc := ⟨.hbm, 203, rfl⟩
abbrev main_v156 : Ref sig .tc := ⟨.hbm, 204, rfl⟩
abbrev main_v157 : Ref sig .tc := ⟨.hbm, 205, rfl⟩
abbrev main_c_41 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_42 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_c_43 : Ref sig .tc := ⟨.hbm, 219, rfl⟩
abbrev main_v169 : Ref sig .tc := ⟨.hbm, 220, rfl⟩
abbrev main_v170 : Ref sig .tc := ⟨.hbm, 221, rfl⟩
abbrev main_c_44 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_c_45 : Ref sig .tc := ⟨.hbm, 226, rfl⟩
abbrev main_v174 : Ref sig .tc := ⟨.hbm, 227, rfl⟩
abbrev main_v175 : Ref sig .tc := ⟨.hbm, 228, rfl⟩
abbrev main_c_46 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_c_47 : Ref sig .tc := ⟨.hbm, 237, rfl⟩
abbrev main_v183 : Ref sig .tc := ⟨.hbm, 238, rfl⟩
abbrev main_v184 : Ref sig .tc := ⟨.hbm, 239, rfl⟩
abbrev main_c_48 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_c_49 : Ref sig .tc := ⟨.hbm, 246, rfl⟩
abbrev main_v190 : Ref sig .tc := ⟨.hbm, 247, rfl⟩
abbrev main_v191 : Ref sig .tc := ⟨.hbm, 248, rfl⟩
abbrev main_c_50 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_51 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_c_52 : Ref sig .tc := ⟨.hbm, 262, rfl⟩
abbrev main_v203 : Ref sig .tc := ⟨.hbm, 263, rfl⟩
abbrev main_v204 : Ref sig .tc := ⟨.hbm, 264, rfl⟩
abbrev main_c_53 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_c_54 : Ref sig .tc := ⟨.hbm, 269, rfl⟩
abbrev main_v208 : Ref sig .tc := ⟨.hbm, 270, rfl⟩
abbrev main_v209 : Ref sig .tc := ⟨.hbm, 271, rfl⟩
abbrev main_c_55 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_c_56 : Ref sig .tc := ⟨.hbm, 280, rfl⟩
abbrev main_v217 : Ref sig .tc := ⟨.hbm, 281, rfl⟩
abbrev main_v218 : Ref sig .tc := ⟨.hbm, 282, rfl⟩
abbrev main_c_57 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_c_58 : Ref sig .tc := ⟨.hbm, 289, rfl⟩
abbrev main_v224 : Ref sig .tc := ⟨.hbm, 290, rfl⟩
abbrev main_v225 : Ref sig .tc := ⟨.hbm, 291, rfl⟩
abbrev main_c_59 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_60 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_c_61 : Ref sig .tc := ⟨.hbm, 305, rfl⟩
abbrev main_v237 : Ref sig .tc := ⟨.hbm, 306, rfl⟩
abbrev main_v238 : Ref sig .tc := ⟨.hbm, 307, rfl⟩
abbrev main_c_62 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_c_63 : Ref sig .tc := ⟨.hbm, 312, rfl⟩
abbrev main_v242 : Ref sig .tc := ⟨.hbm, 313, rfl⟩
abbrev main_v243 : Ref sig .tc := ⟨.hbm, 314, rfl⟩
abbrev main_c_64 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_c_65 : Ref sig .tc := ⟨.hbm, 323, rfl⟩
abbrev main_v251 : Ref sig .tc := ⟨.hbm, 324, rfl⟩
abbrev main_v252 : Ref sig .tc := ⟨.hbm, 325, rfl⟩
abbrev main_c_66 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_c_67 : Ref sig .tc := ⟨.hbm, 332, rfl⟩
abbrev main_v258 : Ref sig .tc := ⟨.hbm, 333, rfl⟩
abbrev main_v259 : Ref sig .tc := ⟨.hbm, 334, rfl⟩
abbrev main_c_68 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_cst_69 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_c_70 : Ref sig .tc := ⟨.hbm, 348, rfl⟩
abbrev main_v271 : Ref sig .tc := ⟨.hbm, 349, rfl⟩
abbrev main_v272 : Ref sig .tc := ⟨.hbm, 350, rfl⟩
abbrev main_c_71 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_c_72 : Ref sig .tc := ⟨.hbm, 355, rfl⟩
abbrev main_v276 : Ref sig .tc := ⟨.hbm, 356, rfl⟩
abbrev main_v277 : Ref sig .tc := ⟨.hbm, 357, rfl⟩
abbrev main_c_73 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩

abbrev nD : Nat := 1
abbrev τ : Topo := Topo.v7x

variable {F : FTy → Type} [FloatOps F]
-- ==== Proof.Count.lean ====
/-
  The edge count one tile builds. A tile holds the rows `lo … lo + 63` of the edge-count matrix; it takes its SparseCore's
  edges sixteen at a time and, lane by lane, adds one at (receiver - lo, sender) for each edge whose receiver is one
  of its rows. `hitCount … n` is what its rows hold after the first `n` edges; `storeIdx_lane` says that the masked
  indexed addition for one lane is one step of it.
-/
module

public import proofs.«01_k».proof.Defs
public import proofs.«01_k».proof.Proof.Gen.KernelIdeal
public import proofs.«01_k».proof.Proof.Gen.KernelIdeal.Skeleton

@[expose] public section

noncomputable section

namespace Cert.Proof.Count

open Cert.KernelIdeal Cert.KernelIdeal.Gen
open Idealize.ShloMosaic

variable {F : FTy → Type} [FloatOps F]

/-- The value one edge adds. -/
abbrev one : F .f32 := k0_pay1 (F := F) (Shape.ofLane (d := S16.size) (0 : Fin 16))

/-- Rows `lo … lo + 63` of the count matrix after the first `n` edges (`s`: senders, `r`: receivers), from `z`. -/
def hitCount (z : Vec F S64x1024 .f32) (lo : ℕ) (s r : ℕ → BitVec 32) : ℕ → Vec F S64x1024 .f32
  | 0 => z
  | n + 1 => fun j => if (r n).toNat = lo + (j 0).val ∧ (s n).toNat = (j 1).val
      then FloatOps.idxAddf (hitCount z lo s r n j) one else hitCount z lo s r n j

/-- A fold whose step acts at one element of the list alone is that step. -/
theorem foldl_one {α β : Type} [DecidableEq β] (P : β → Prop) [DecidablePred P] (step : α → β → α) (l : β) (hP : ∀ k, P k → k = l) :
    ∀ (L : List β), L.Nodup → ∀ a, L.foldl (fun g k => if P k then step g k else g) a = if l ∈ L ∧ P l then step a l else a := by
  intro L
  induction L with
  | nil => intro _ a; simp
  | cons b L ih =>
    intro hn a
    rw [List.foldl_cons, ih (List.nodup_cons.mp hn).2]
    by_cases hb : P b
    · obtain rfl := hP b hb
      simp [hb, (List.nodup_cons.mp hn).1]
    · by_cases hl : P l
      · have : l ≠ b := fun e => hb (e ▸ hl)
        simp [hb, hl, this]
      · simp [hb, hl]

/-- A masked indexed addition of which one lane `l` alone can be set writes that lane's element. -/
theorem storeIdx_single {s : Shape} {d : Fin 1 → Nat} (f : Vec F s .f32) (idxs : Fin s.rank → IVec ⟨1, d⟩ 32) (v : Vec F ⟨1, d⟩ .f32) (mask : IVec ⟨1, d⟩ 1)
    (h : ∀ a x, (idxs a x).toNat < s.size a) (l : Fin (d 0)) (hm : ∀ k : Fin (d 0), mask (Shape.ofLane k) = 1 → k = l) :
    storeIdx f idxs v mask true h = if mask (Shape.ofLane l) = 1 then
      (fun j => if (∀ a, (j a).val = (idxAt idxs h (Shape.ofLane l) a).val) then FloatOps.idxAddf (f (idxAt idxs h (Shape.ofLane l))) (v (Shape.ofLane l)) else f j) else f := by
  unfold storeIdx
  refine (foldl_one (fun k : Fin (d 0) => mask (Shape.ofLane k) = 1) _ l hm _ (List.nodup_finRange _) f).trans ?_
  simp only [List.mem_finRange, true_and]
  rfl

/-- Which lanes name one of the tile's rows (`lo` the first of them). -/
abbrev inRows (lo : BitVec 32) (r : IVec S16 32) : IVec S16 1 :=
  andi (cmpi .sge r (broadcast S16 lo)) (cmpi .slt r (broadcast S16 (Scalar.addi lo 64#32)))

/-- The row index each lane gives. -/
abbrev rowIx (lo : BitVec 32) (r : IVec S16 32) : IVec S16 32 :=
  select (inRows lo r) (subi r (broadcast S16 lo)) (broadcast S16 0#32)

abbrev lanes : IVec S16 32 := iota .scVector S16 32 [0] iota_S16_d0_w32_scVector

/-- Lane `l` alone, when it names one of the tile's rows. -/
abbrev laneMask (lo : BitVec 32) (r : IVec S16 32) (l : BitVec 32) : IVec S16 1 :=
  andi (inRows lo r) (cmpi .eq lanes (broadcast S16 l))

theorem and_one (p q : Bool) : BitVec.ofBool p &&& BitVec.ofBool q = 1#1 ↔ p = true ∧ q = true := by
  cases p <;> cases q <;> decide

theorem inRows_iff (lo : ℕ) (hlo : lo ≤ 960) (r : IVec S16 32) (x : S16.Idx) :
    inRows (BitVec.ofNat 32 lo) r x = 1#1 ↔ lo ≤ (r x).toNat ∧ (r x).toNat < lo + 64 := by
  show IntOp.andi (IntOp.cmpi .sge (r x) (BitVec.ofNat 32 lo)) (IntOp.cmpi .slt (r x) (BitVec.ofNat 32 lo + 64#32)) = 1#1 ↔ _
  unfold IntOp.andi IntOp.cmpi
  rw [and_one]
  have h1 : (BitVec.ofNat 32 lo).toNat = lo := by rw [BitVec.toNat_ofNat]; omega
  have h2 : (BitVec.ofNat 32 lo + 64#32).toNat = lo + 64 := by
    rw [BitVec.toNat_add, h1]; simp; omega
  have hr := (r x).isLt
  have e1 := BitVec.toInt_eq_toNat_cond (BitVec.ofNat 32 lo)
  have e2 := BitVec.toInt_eq_toNat_cond (BitVec.ofNat 32 lo + 64#32)
  have e3 := BitVec.toInt_eq_toNat_cond (r x)
  rw [h1] at e1; rw [h2] at e2
  simp only [BitVec.sle_iff_toInt_le, BitVec.slt_iff_toInt_lt]
  split at e1 <;> split at e2 <;> split at e3 <;> omega

theorem rowIx_eq (lo : ℕ) (hlo : lo ≤ 960) (r : IVec S16 32) (x : S16.Idx) :
    (rowIx (BitVec.ofNat 32 lo) r x).toNat = if lo ≤ (r x).toNat ∧ (r x).toNat < lo + 64 then (r x).toNat - lo else 0 := by
  show (if inRows (BitVec.ofNat 32 lo) r x = 1#1 then r x - BitVec.ofNat 32 lo else 0#32).toNat = _
  by_cases h : inRows (BitVec.ofNat 32 lo) r x = 1#1
  · have h' := (inRows_iff lo hlo r x).mp h
    rw [if_pos h, if_pos h', BitVec.toNat_sub, BitVec.toNat_ofNat]
    have := (r x).isLt
    omega
  · rw [if_neg h, if_neg (fun h' => h ((inRows_iff lo hlo r x).mpr h'))]; rfl

theorem laneMask_iff (lo : BitVec 32) (r : IVec S16 32) (l : ℕ) (hl : l < 16) (k : Fin 16) :
    laneMask lo r (BitVec.ofNat 32 l) (Shape.ofLane (d := S16.size) k) = 1#1
      ↔ inRows lo r (Shape.ofLane (d := S16.size) k) = 1#1 ∧ k.val = l := by
  have hb : ∀ a b : BitVec 1, a &&& b = 1#1 ↔ a = 1#1 ∧ b = 1#1 := by decide
  show IntOp.andi (inRows lo r _) (IntOp.cmpi .eq (lanes (Shape.ofLane (d := S16.size) k)) (BitVec.ofNat 32 l)) = 1#1 ↔ _
  unfold IntOp.andi
  rw [hb]
  refine and_congr_right fun _ => ?_
  unfold IntOp.cmpi
  have e : lanes (Shape.ofLane (d := S16.size) k) = BitVec.ofNat 32 k.val := by
    show BitVec.ofNat 32 (0 * _ + k.val) = _
    rw [Nat.zero_mul, Nat.zero_add]
  rw [e]
  have : ∀ p : Bool, BitVec.ofBool p = 1#1 ↔ p = true := by decide
  simp only [this, beq_iff_eq]
  constructor
  · intro h
    have := congrArg BitVec.toNat h
    rw [BitVec.toNat_ofNat, BitVec.toNat_ofNat] at this
    omega
  · rintro rfl; rfl

/-- The row index is below 64 on every lane, and the sender below 1024: the indices are in range. -/
theorem chk (lo : ℕ) (hlo : lo ≤ 960) (r s : IVec S16 32) (hs : ∀ x, (s x).toNat < 1024) :
    ∀ a x, ((![rowIx (BitVec.ofNat 32 lo) r, s] : Fin 2 → IVec S16 32) a x).toNat < S64x1024.size a := by
  intro a x
  fin_cases a
  · show (rowIx (BitVec.ofNat 32 lo) r x).toNat < 64
    rw [rowIx_eq lo hlo]; split <;> omega
  · exact hs x

/-- The masked indexed addition for lane `l` is one step of the count. -/
theorem storeIdx_lane (z : Vec F S64x1024 .f32) (lo : ℕ) (hlo : lo ≤ 960) (s r : ℕ → BitVec 32) (n : ℕ) (r16 s16 : IVec S16 32) (l : ℕ) (hl : l < 16)
    (hr : r16 (Shape.ofLane (d := S16.size) ⟨l, hl⟩) = r n) (hs : s16 (Shape.ofLane (d := S16.size) ⟨l, hl⟩) = s n)
    (h : ∀ a x, ((![rowIx (BitVec.ofNat 32 lo) r16, s16] : Fin 2 → IVec S16 32) a x).toNat < S64x1024.size a) :
    storeIdx (d := S16.size) (hitCount z lo s r n) (![rowIx (BitVec.ofNat 32 lo) r16, s16] : Fin 2 → IVec S16 32) (k0_pay1 (F := F))
      (laneMask (BitVec.ofNat 32 lo) r16 (BitVec.ofNat 32 l)) true h = hitCount z lo s r (n + 1) := by
  have hR := rowIx_eq lo hlo r16 (Shape.ofLane (d := S16.size) ⟨l, hl⟩)
  rw [hr] at hR
  have hmask : laneMask (BitVec.ofNat 32 lo) r16 (BitVec.ofNat 32 l) (Shape.ofLane (d := S16.size) ⟨l, hl⟩) = 1
      ↔ lo ≤ (r n).toNat ∧ (r n).toNat < lo + 64 := by
    rw [← hr]
    exact ((laneMask_iff _ r16 l hl ⟨l, hl⟩).trans (and_iff_left rfl)).trans (inRows_iff lo hlo r16 _)
  refine (storeIdx_single (d := S16.size) _ _ _ _ h (⟨l, hl⟩ : Fin 16) (fun k hk => Fin.ext ((laneMask_iff _ _ l hl k).mp hk).2)).trans ?_
  by_cases hin : lo ≤ (r n).toNat ∧ (r n).toNat < lo + 64
  · rw [if_pos hin] at hR
    refine (if_pos (hmask.mpr hin)).trans (funext fun j => ?_)
    have hj : (j 0).val < 64 := (j 0).isLt
    have hall : (∀ a, (j a).val = (idxAt (s := S64x1024) ![rowIx (BitVec.ofNat 32 lo) r16, s16] h (Shape.ofLane (d := S16.size) ⟨l, hl⟩) a).val)
        ↔ ((r n).toNat = lo + (j 0).val ∧ (s n).toNat = (j 1).val) := by
      constructor
      · intro ha
        have h0 : (j 0).val = (rowIx (BitVec.ofNat 32 lo) r16 (Shape.ofLane (d := S16.size) ⟨l, hl⟩)).toNat := ha 0
        have h1 : (j 1).val = (s16 (Shape.ofLane (d := S16.size) ⟨l, hl⟩)).toNat := ha 1
        rw [hs] at h1
        omega
      · rintro ⟨h0, h1⟩ a
        fin_cases a
        · show (j 0).val = (rowIx (BitVec.ofNat 32 lo) r16 (Shape.ofLane (d := S16.size) ⟨l, hl⟩)).toNat
          omega
        · show (j 1).val = (s16 (Shape.ofLane (d := S16.size) ⟨l, hl⟩)).toNat
          rw [hs]; omega
    by_cases hh : (r n).toNat = lo + (j 0).val ∧ (s n).toNat = (j 1).val
    · refine (if_pos (hall.mpr hh)).trans (Eq.trans ?_ (if_pos hh).symm)
      have e : idxAt (s := S64x1024) ![rowIx (BitVec.ofNat 32 lo) r16, s16] h (Shape.ofLane (d := S16.size) ⟨l, hl⟩) = j :=
        funext fun a => Fin.ext (hall.mpr hh a).symm
      exact congrArg (fun i => FloatOps.idxAddf (hitCount z lo s r n i) (one (F := F))) e
    · exact (if_neg (fun x => hh (hall.mp x))).trans (if_neg hh).symm
  · refine (if_neg (fun x => hin (hmask.mp x))).trans (funext fun j => ?_)
    have hj : (j 0).val < 64 := (j 0).isLt
    refine (if_neg ?_).symm
    rintro ⟨h0, -⟩; omega

end Cert.Proof.Count

end
-- ==== Proof.Setup.lean ====
/-
  The kernel's program as the launch theorem sees it: the SparseCore configuration, the resource algebra (the launch's
  handshakes, the pipeline's cells, the transfers' counters), the memrefs as the body table passes them, and what one
  edge half counts to in the launch memory.
-/
module

public import proofs.«01_k».proof.Proof.Count
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

variable (m : (ℓ : Loc nD τ sig) → Buf (Elt F) ℓ)

abbrev sLoc (d : Dev nD) : Loc nD τ sig := (SparseCore.T d).loc main_arg1
abbrev rLoc (d : Dev nD) : Loc nD τ sig := (SparseCore.T d).loc main_arg2
abbrev zLoc (d : Dev nD) : Loc nD τ sig := (SparseCore.T d).loc main_v0
abbrev aLoc (d : Dev nD) : Loc nD τ sig := (SparseCore.T d).loc main_v1

variable [FloatOps F]

/-- The zeros every tile starts its rows at: what @main wrote. -/
abbrev zeros : Vec F S64x1024 .f32 :=
  broadcastInDim S64x1024 ![] bcast_S_S64x1024 (constant S_ .f32 0x00000000#32)

/-- Element `n` of half `c` of an edge list. -/
def edgeAt (f : S8192.Idx → BitVec 32) (c : ℕ) (n : ℕ) : BitVec 32 := f (Shape.ofLane (d := S8192.size) (⟨(4096 * c + n) % 8192, Nat.mod_lt _ (by decide)⟩ : Fin 8192))

/-- Tile `i` of SparseCore `c`: its rows after all its SparseCore's edges. -/
def tileCount (s r : S8192.Idx → BitVec 32) (c i : ℕ) : Vec F S64x1024 .f32 :=
  Count.hitCount zeros (64 * i) (edgeAt s c) (edgeAt r c) 4096

/-- The two SparseCores' partial count matrices. -/
def counts (s r : S8192.Idx → BitVec 32) : Vec F S2x1024x1024 .f32 := fun j =>
  tileCount s r (j 0).val ((j 1).val / 64) (fun | 0 => ⟨(j 1).val % 64, Nat.mod_lt _ (by decide)⟩ | 1 => j 2)

end Cert.Proof.Run

end
-- ==== Proof.Tile.lean ====
/-
  One tile's task. It fetches its SparseCore's half of the two edge lists and the zeros (three transfers in flight at
  once), adds its edges in sixteen at a time — the loop's invariant says what its rows hold: the count after `16 * k`
  edges —, and writes its rows out.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (m : (ℓ : Loc nD τ sig) → Buf (Elt F) ℓ)

local notation "sV" => (Memref.whole Cert.KernelIdeal.main_arg1_scv : Memref Cert.KernelIdeal.sig Kind.scVector Space.hbm Cert.KernelIdeal.S8192 EltTy.i32)
local notation "rV" => (Memref.whole Cert.KernelIdeal.main_arg2_scv : Memref Cert.KernelIdeal.sig Kind.scVector Space.hbm Cert.KernelIdeal.S8192 EltTy.i32)
local notation "zV" => (Memref.whole Cert.KernelIdeal.main_v0_scv : Memref Cert.KernelIdeal.sig Kind.scVector Space.hbm Cert.KernelIdeal.S64x1024 EltTy.f32)
local notation "aV" => (Memref.whole Cert.KernelIdeal.main_v1_scv : Memref Cert.KernelIdeal.sig Kind.scVector Space.hbm Cert.KernelIdeal.S2x1024x1024 EltTy.f32)
local notation "bS" => (Memref.whole Cert.KernelIdeal.cc0_scratch0 : Memref Cert.KernelIdeal.sig Kind.scVector Space.vmem Cert.KernelIdeal.S4096 EltTy.i32)
local notation "bR" => (Memref.whole Cert.KernelIdeal.cc0_scratch1 : Memref Cert.KernelIdeal.sig Kind.scVector Space.vmem Cert.KernelIdeal.S4096 EltTy.i32)
local notation "bA" => (Memref.whole Cert.KernelIdeal.cc0_scratch2 : Memref Cert.KernelIdeal.sig Kind.scVector Space.vmem Cert.KernelIdeal.S64x1024 EltTy.f32)

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's block of the result, as it addresses it. -/
abbrev aBlk (L : grid0.Coords) : Memref sig .scVector .hbm S64x1024 .f32 :=
  ((aV).slice (Rect.unit (s := S2x1024x1024) (k0_off3 L) S1x64x1024.size (k0_off3_inb L)) (fun _ => rfl)).squeeze S64x1024 squeezes_S1x64x1024_S64x1024

/-- The tile's half of an edge list, as it addresses it. -/
abbrev sHalf (L : grid0.Coords) : Memref sig .scVector .hbm S4096 .i32 :=
  (sV).slice (Rect.unit (s := S8192) (k0_off1 L) S4096.size (k0_off1_inb L)) (fun _ => rfl)
abbrev rHalf (L : grid0.Coords) : Memref sig .scVector .hbm S4096 .i32 :=
  (rV).slice (Rect.unit (s := S8192) (k0_off1 L) S4096.size (k0_off1_inb L)) (fun _ => rfl)

abbrev wS (L : grid0.Coords) : Vec F S4096 .i32 := (sHalf L).view.read (Elt F) (m (sLoc d))
abbrev wR (L : grid0.Coords) : Vec F S4096 .i32 := (rHalf L).view.read (Elt F) (m (rLoc d))

/-- What the tile's rows hold after `n` edges. -/
abbrev rowsAt (n : ℕ) : Vec F S64x1024 .f32 :=
  Count.hitCount zeros (64 * (L 1).val) (edgeAt (m (sLoc d)) (L 0).val) (edgeAt (m (rLoc d)) (L 0).val) n

/-- The two loaded groups of sixteen at trip `k`. -/
abbrev grp (k : Fin k0_t1_loop.trips) (f : Vec F S4096 .i32) : IVec S16 32 :=
  (bS).view.readAt (Elt F) (Rect.unit (s := S4096) (k0_off2 k) S16.size (k0_off2_inb k)).toLoadRect f

abbrev lo (L : grid0.Coords) : BitVec 32 := BitVec.ofNat 32 (64 * (L 1).val)

theorem lo_le : 64 * (L 1).val ≤ 960 := by
  have : (L 1).val < 16 := (L 1).isLt
  omega

/-- A lane's checked, masked, indexed addition, at the tile's rows after `n` edges: the rows after `n + 1`. -/
theorem wp_lane {α : Type} (n n' l : ℕ) (hn : n' = n + 1) (hl : l < 16) (r16 s16 : IVec S16 32)
    (hr : r16 (Shape.ofLane (d := S16.size) ⟨l, hl⟩) = edgeAt (m (rLoc d)) (L 0).val n)
    (hs : s16 (Shape.ofLane (d := S16.size) ⟨l, hl⟩) = edgeAt (m (sLoc d)) (L 0).val n)
    {C : Prop} {dec : Decidable C} (hC : C) {ix : IVec S16 32} {v : Vec F S16 .f32} {mask : IVec S16 1}
    (hix : ix = Count.rowIx (lo L) r16) (hv : v = k0_pay1 (F := F)) (hmask : mask = Count.laneMask (lo L) r16 (BitVec.ofNat 32 l))
    {h : PLift C → ∀ a x, ((![ix, s16] : Fin 2 → IVec S16 32) a x).toNat < S64x1024.size a}
    {hst : ((bA).access (.whole S64x1024)).Stores Finset.univ} {E : Set ℕ}
    {k : PLift C → PUnit → Prog (TpuEff nD τ sig (Elt F) Λ₀ (thr d L).2) α} {Q : α → sProp 𝕄} :
    ((bA).view.loc (thr d L) ↦{fullShare} rowsAt m d L n : sProp 𝕄)
      ⊢ iprop((((bA).view.loc (thr d L) ↦{fullShare} rowsAt m d L n') -∗ wp frame (wpE (defs₀ (F := F)) 𝒱₀ (thr d L) none) E (k ⟨hC⟩ ⟨⟩) Q)
        -∗ wp frame (wpE (defs₀ (F := F)) 𝒱₀ (thr d L) none) E
          (.op (.assume C dec) fun w => SparseCore.vectorStoreIdx bA (![ix, s16] : Fin 2 → IVec S16 32) v mask true (h w) hst >>= k w) Q) := by
  subst hn hix hv hmask
  rw [wp_assume_of _ _ _ _ hC]
  have e := Count.storeIdx_lane (F := F) zeros (64 * (L 1).val) (lo_le L) (edgeAt (m (sLoc d)) (L 0).val) (edgeAt (m (rLoc d)) (L 0).val) n r16 s16 l hl hr hs (h ⟨hC⟩)
  have := SparseCore.wp_vectorStoreIdx (F := F) (defs := defs₀ (F := F)) (Name := ℕ) (U := UU) (Ix := HIx 1) (Lvl := ℕ) 𝒱₀ (thr d L) none E (Q := Q) (base := bA)
    (idxs := ![Count.rowIx (lo L) r16, s16]) (v := k0_pay1 (F := F)) (mask := Count.laneMask (lo L) r16 (BitVec.ofNat 32 l)) (add := true) (h := h ⟨hC⟩) (hs := hst) (k := k ⟨hC⟩)
    (f := rowsAt m d L n)
  rw [Memref.set_access_whole, Memref.read_access_whole, Memref.write_access_whole_univ] at this
  rw [e] at this
  exact this

theorem trips_eq : k0_t1_loop.trips = 256 := by decide

theorem wR_apply (n : Fin 4096) : wR m d L (Shape.ofLane (d := S4096.size) n) = edgeAt (m (rLoc d)) (L 0).val n.val := by
  have hc : (L 0).val < 2 := (L 0).isLt
  refine ((View.read_apply _ _).trans (cast_eq _ _)).trans ?_
  unfold edgeAt
  refine congrArg (m (rLoc d)) (funext fun a => Fin.ext ?_)
  have ha : a = (0 : Fin 1) := Subsingleton.elim (α := Fin 1) a 0
  subst ha
  show k0_off1 L 0 + 1 * n.val = (4096 * (L 0).val + n.val) % 8192
  rw [k0_off1_eq]
  show 4096 * (L 0).val + 1 * n.val = _
  have := n.isLt
  omega

theorem wS_apply (n : Fin 4096) : wS m d L (Shape.ofLane (d := S4096.size) n) = edgeAt (m (sLoc d)) (L 0).val n.val := by
  have hc : (L 0).val < 2 := (L 0).isLt
  refine ((View.read_apply _ _).trans (cast_eq _ _)).trans ?_
  unfold edgeAt
  refine congrArg (m (sLoc d)) (funext fun a => Fin.ext ?_)
  have ha : a = (0 : Fin 1) := Subsingleton.elim (α := Fin 1) a 0
  subst ha
  show k0_off1 L 0 + 1 * n.val = (4096 * (L 0).val + n.val) % 8192
  rw [k0_off1_eq]
  show 4096 * (L 0).val + 1 * n.val = _
  have := n.isLt
  omega

theorem grp_idx (k : Fin k0_t1_loop.trips) (l : ℕ) (hl : l < 16) (h : 16 * k.val + l < 4096) :
    (Rect.unit (s := S4096) (k0_off2 k) S16.size (k0_off2_inb k)).toLoadRect.idx (Shape.ofLane (d := S16.size) ⟨l, hl⟩)
      = Shape.ofLane (d := S4096.size) (⟨16 * k.val + l, h⟩ : Fin 4096) := by
  funext a; apply Fin.ext
  rw [LoadRect.idx_apply, Subsingleton.elim a 0]
  show k0_off2 k 0 + 1 * l = 16 * k.val + l
  rw [k0_off2_eq]
  show 16 * k.val + 1 * l = _
  omega

theorem lane_lt (k : Fin k0_t1_loop.trips) (l : ℕ) (hl : l < 16) : 16 * k.val + l < 4096 := by
  have := k.isLt
  have := trips_eq
  omega

theorem grpR (k : Fin k0_t1_loop.trips) (l : ℕ) (hl : l < 16) :
    (bR).view.readAt (Elt F) (Rect.unit (s := S4096) (k0_off2 k) S16.size (k0_off2_inb k)).toLoadRect (wR m d L) (Shape.ofLane (d := S16.size) ⟨l, hl⟩)
      = edgeAt (m (rLoc d)) (L 0).val (16 * k.val + l) := by
  show wR m d L ((Rect.unit (s := S4096) (k0_off2 k) S16.size (k0_off2_inb k)).toLoadRect.idx (Shape.ofLane (d := S16.size) ⟨l, hl⟩)) = _
  exact (congrArg (wR m d L) (grp_idx k l hl (lane_lt k l hl))).trans (wR_apply m d L ⟨_, lane_lt k l hl⟩)

theorem grpS (k : Fin k0_t1_loop.trips) (l : ℕ) (hl : l < 16) :
    (bS).view.readAt (Elt F) (Rect.unit (s := S4096) (k0_off2 k) S16.size (k0_off2_inb k)).toLoadRect (wS m d L) (Shape.ofLane (d := S16.size) ⟨l, hl⟩)
      = edgeAt (m (sLoc d)) (L 0).val (16 * k.val + l) := by
  show wS m d L ((Rect.unit (s := S4096) (k0_off2 k) S16.size (k0_off2_inb k)).toLoadRect.idx (Shape.ofLane (d := S16.size) ⟨l, hl⟩)) = _
  exact (congrArg (wS m d L) (grp_idx k l hl (lane_lt k l hl))).trans (wS_apply m d L ⟨_, lane_lt k l hl⟩)

theorem lane_eta (x : S16.Idx) : ∃ (l : ℕ) (hl : l < 16), x = Shape.ofLane (d := S16.size) ⟨l, hl⟩ :=
  ⟨(x 0).val, (x 0).isLt, funext fun a => by obtain rfl : a = 0 := Subsingleton.elim _ _; rfl⟩

/-- What the proof asks of the launch memory: every sender a node. -/
def PreOK : Prop := ∀ (d : Dev nD) (j : S8192.Idx), (m (sLoc d) j).toNat < 1024

theorem grpS_lt (hpre : PreOK m) (k : Fin k0_t1_loop.trips) (x : S16.Idx) :
    ((bS).view.readAt (Elt F) (Rect.unit (s := S4096) (k0_off2 k) S16.size (k0_off2_inb k)).toLoadRect (wS m d L) x).toNat < 1024 := by
  obtain ⟨l, hl, rfl⟩ := lane_eta x
  rw [grpS]
  exact hpre d _

set_option maxHeartbeats 400000 in
/-- One trip: sixteen edges. -/
theorem trip (hpre : PreOK m) (k : Fin k0_t1_loop.trips) (E : Set ℕ) (Q : Unit → sProp 𝕄) :
    iprop(((bS).view.loc (thr d L) ↦{fullShare} wS m d L) ∗ ((bR).view.loc (thr d L) ↦{fullShare} wR m d L)
        ∗ ((bA).view.loc (thr d L) ↦{fullShare} rowsAt m d L (16 * k.val))
        ∗ (iprop(((bS).view.loc (thr d L) ↦{fullShare} wS m d L) ∗ ((bR).view.loc (thr d L) ↦{fullShare} wR m d L)
          ∗ ((bA).view.loc (thr d L) ↦{fullShare} rowsAt m d L (16 * (k.val + 1)))) -∗ Q ()))
      ⊢ wp frame (wpE (defs₀ (F := F)) 𝒱₀ (thr d L) none) E
          (k0_t1_body L sV (Memref.isWhole_whole _) rV (Memref.isWhole_whole _) zV (Memref.isWhole_whole _) aV (Memref.isWhole_whole _)
            bS (Memref.isWhole_whole _) bR (Memref.isWhole_whole _) bA (Memref.isWhole_whole _) cc0_scratch3 cc0_scratch4 cc0_scratch5 cc0_scoped0
            (Scalar.muli (BitVec.ofNat 32 (L 1).val) 64#32) Count.lanes k ()) Q := by
  unfold k0_t1_body
  simp only [k0_part1_eq_skeleton, k0_part2_eq_skeleton, k0_part3_eq_skeleton, k0_part1_skel, k0_part2_skel, k0_part3_skel,
    Prog.lift, Prog.bind_op, Prog.bind_ret, Prog.pure_eq_ret, bind_assoc]
  iintro ⟨Hs, Hr, Ha, Hk⟩
  iapply (wp_load 𝒱₀ (thr d L) none E (m := bR) (S := Finset.univ) (Finset.subset_univ _)) $$ Hr; iintro Hr
  iapply (wp_load 𝒱₀ (thr d L) none E (m := bS) (S := Finset.univ) (Finset.subset_univ _)) $$ Hs; iintro Hs
  have hC := Count.chk (64 * (L 1).val) (lo_le L) ((bR).view.readAt (Elt F) (Rect.unit (s := S4096) (k0_off2 k) S16.size (k0_off2_inb k)).toLoadRect (wR m d L)) _ (grpS_lt m d L hpre k)
  have hlo' : lo L = Scalar.muli (BitVec.ofNat 32 (L 1).val) 64#32 := by
    show BitVec.ofNat 32 (64 * (L 1).val) = BitVec.ofNat 32 (L 1).val * 64#32
    apply BitVec.eq_of_toNat_eq
    rw [BitVec.toNat_mul, BitVec.toNat_ofNat, BitVec.toNat_ofNat, BitVec.toNat_ofNat]
    have := lo_le L
    omega
  rw [show (BitVec.ofNat 32 (64 * (L 1).val)) = Scalar.muli (BitVec.ofNat 32 (L 1).val) 64#32 from hlo'] at hC
  iapply (wp_lane m d L (16 * k.val + 0) (16 * k.val + 1) 0 rfl (by decide) _ _ (grpR m d L k 0 (by decide)) (grpS m d L k 0 (by decide)) hC ?i0 ?v0 ?m0) $$ Ha
  case i0 => rw [hlo']; rfl
  case v0 => rfl
  case m0 => rw [hlo']; rfl
  iintro Ha
  iapply (wp_lane m d L (16 * k.val + 1) (16 * k.val + 2) 1 rfl (by decide) _ _ (grpR m d L k 1 (by decide)) (grpS m d L k 1 (by decide)) hC ?i1 ?v1 ?m1) $$ Ha
  case i1 => rw [hlo']; rfl
  case v1 => rfl
  case m1 => rw [hlo']; rfl
  iintro Ha
  iapply (wp_lane m d L (16 * k.val + 2) (16 * k.val + 3) 2 rfl (by decide) _ _ (grpR m d L k 2 (by decide)) (grpS m d L k 2 (by decide)) hC ?i2 ?v2 ?m2) $$ Ha
  case i2 => rw [hlo']; rfl
  case v2 => rfl
  case m2 => rw [hlo']; rfl
  iintro Ha
  iapply (wp_lane m d L (16 * k.val + 3) (16 * k.val + 4) 3 rfl (by decide) _ _ (grpR m d L k 3 (by decide)) (grpS m d L k 3 (by decide)) hC ?i3 ?v3 ?m3) $$ Ha
  case i3 => rw [hlo']; rfl
  case v3 => rfl
  case m3 => rw [hlo']; rfl
  iintro Ha
  iapply (wp_lane m d L (16 * k.val + 4) (16 * k.val + 5) 4 rfl (by decide) _ _ (grpR m d L k 4 (by decide)) (grpS m d L k 4 (by decide)) hC ?i4 ?v4 ?m4) $$ Ha
  case i4 => rw [hlo']; rfl
  case v4 => rfl
  case m4 => rw [hlo']; rfl
  iintro Ha
  iapply (wp_lane m d L (16 * k.val + 5) (16 * k.val + 6) 5 rfl (by decide) _ _ (grpR m d L k 5 (by decide)) (grpS m d L k 5 (by decide)) hC ?i5 ?v5 ?m5) $$ Ha
  case i5 => rw [hlo']; rfl
  case v5 => rfl
  case m5 => rw [hlo']; rfl
  iintro Ha
  iapply (wp_lane m d L (16 * k.val + 6) (16 * k.val + 7) 6 rfl (by decide) _ _ (grpR m d L k 6 (by decide)) (grpS m d L k 6 (by decide)) hC ?i6 ?v6 ?m6) $$ Ha
  case i6 => rw [hlo']; rfl
  case v6 => rfl
  case m6 => rw [hlo']; rfl
  iintro Ha
  iapply (wp_lane m d L (16 * k.val + 7) (16 * k.val + 8) 7 rfl (by decide) _ _ (grpR m d L k 7 (by decide)) (grpS m d L k 7 (by decide)) hC ?i7 ?v7 ?m7) $$ Ha
  case i7 => rw [hlo']; rfl
  case v7 => rfl
  case m7 => rw [hlo']; rfl
  iintro Ha
  iapply (wp_lane m d L (16 * k.val + 8) (16 * k.val + 9) 8 rfl (by decide) _ _ (grpR m d L k 8 (by decide)) (grpS m d L k 8 (by decide)) hC ?i8 ?v8 ?m8) $$ Ha
  case i8 => rw [hlo']; rfl
  case v8 => rfl
  case m8 => rw [hlo']; rfl
  iintro Ha
  iapply (wp_lane m d L (16 * k.val + 9) (16 * k.val + 10) 9 rfl (by decide) _ _ (grpR m d L k 9 (by decide)) (grpS m d L k 9 (by decide)) hC ?i9 ?v9 ?m9) $$ Ha
  case i9 => rw [hlo']; rfl
  case v9 => rfl
  case m9 => rw [hlo']; rfl
  iintro Ha
  iapply (wp_lane m d L (16 * k.val + 10) (16 * k.val + 11) 10 rfl (by decide) _ _ (grpR m d L k 10 (by decide)) (grpS m d L k 10 (by decide)) hC ?i10 ?v10 ?m10) $$ Ha
  case i10 => rw [hlo']; rfl
  case v10 => rfl
  case m10 => rw [hlo']; rfl
  iintro Ha
  iapply (wp_lane m d L (16 * k.val + 11) (16 * k.val + 12) 11 rfl (by decide) _ _ (grpR m d L k 11 (by decide)) (grpS m d L k 11 (by decide)) hC ?i11 ?v11 ?m11) $$ Ha
  case i11 => rw [hlo']; rfl
  case v11 => rfl
  case m11 => rw [hlo']; rfl
  iintro Ha
  iapply (wp_lane m d L (16 * k.val + 12) (16 * k.val + 13) 12 rfl (by decide) _ _ (grpR m d L k 12 (by decide)) (grpS m d L k 12 (by decide)) hC ?i12 ?v12 ?m12) $$ Ha
  case i12 => rw [hlo']; rfl
  case v12 => rfl
  case m12 => rw [hlo']; rfl
  iintro Ha
  iapply (wp_lane m d L (16 * k.val + 13) (16 * k.val + 14) 13 rfl (by decide) _ _ (grpR m d L k 13 (by decide)) (grpS m d L k 13 (by decide)) hC ?i13 ?v13 ?m13) $$ Ha
  case i13 => rw [hlo']; rfl
  case v13 => rfl
  case m13 => rw [hlo']; rfl
  iintro Ha
  iapply (wp_lane m d L (16 * k.val + 14) (16 * k.val + 15) 14 rfl (by decide) _ _ (grpR m d L k 14 (by decide)) (grpS m d L k 14 (by decide)) hC ?i14 ?v14 ?m14) $$ Ha
  case i14 => rw [hlo']; rfl
  case v14 => rfl
  case m14 => rw [hlo']; rfl
  iintro Ha
  iapply (wp_lane m d L (16 * k.val + 15) (16 * k.val + 16) 15 rfl (by decide) _ _ (grpR m d L k 15 (by decide)) (grpS m d L k 15 (by decide)) hC ?i15 ?v15 ?m15) $$ Ha
  case i15 => rw [hlo']; rfl
  case v15 => rfl
  case m15 => rw [hlo']; rfl
  iintro Ha
  rw [wp_ret]; imodintro
  iapply Hk
  isplitl [Hs]; · iexact Hs
  isplitl [Hr]; · iexact Hr
  iexact Ha

end Cert.Proof.Run

end
-- ==== Proof.Task.lean ====
/-
  The whole task of one tile: fetches, the loop, the write-out. What goes in is a read share of each operand and the tile's block
  of the result; what comes out is the same, the block at the tile's counts.
-/
module

public import proofs.«01_k».proof.Proof.Tile
public import Idealize.ShloMosaic.Lib.ValueLayout

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (m : (ℓ : Loc nD τ sig) → Buf (Elt F) ℓ)

local notation "sV" => (Memref.whole Cert.KernelIdeal.main_arg1_scv : Memref Cert.KernelIdeal.sig Kind.scVector Space.hbm Cert.KernelIdeal.S8192 EltTy.i32)
local notation "rV" => (Memref.whole Cert.KernelIdeal.main_arg2_scv : Memref Cert.KernelIdeal.sig Kind.scVector Space.hbm Cert.KernelIdeal.S8192 EltTy.i32)
local notation "zV" => (Memref.whole Cert.KernelIdeal.main_v0_scv : Memref Cert.KernelIdeal.sig Kind.scVector Space.hbm Cert.KernelIdeal.S64x1024 EltTy.f32)
local notation "aV" => (Memref.whole Cert.KernelIdeal.main_v1_scv : Memref Cert.KernelIdeal.sig Kind.scVector Space.hbm Cert.KernelIdeal.S2x1024x1024 EltTy.f32)
local notation "bS" => (Memref.whole Cert.KernelIdeal.cc0_scratch0 : Memref Cert.KernelIdeal.sig Kind.scVector Space.vmem Cert.KernelIdeal.S4096 EltTy.i32)
local notation "bR" => (Memref.whole Cert.KernelIdeal.cc0_scratch1 : Memref Cert.KernelIdeal.sig Kind.scVector Space.vmem Cert.KernelIdeal.S4096 EltTy.i32)
local notation "bA" => (Memref.whole Cert.KernelIdeal.cc0_scratch2 : Memref Cert.KernelIdeal.sig Kind.scVector Space.vmem Cert.KernelIdeal.S64x1024 EltTy.f32)

variable (d : Dev nD) (L : grid0.Coords)

abbrev cell3 (d : Dev nD) (L : grid0.Coords) : GSem nD τ sig := (thr d L, .dma cc0_scratch3.sem)
abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell0 (d : Dev nD) (L : grid0.Coords) : GSem nD τ sig := (thr d L, .dma cc0_scoped0.sem)

abbrev restCells (d : Dev nD) (L : grid0.Coords) : Finset (GSem nD τ sig) :=
  ((((ownCells (thr d L)).erase (cell3 d L)).erase (cell4 d L)).erase (cell5 d L)).erase (cell0 d L)

omit [FloatOps F] in
theorem ownSems0_V :
    (ownSems0 (thr d L) : sProp 𝕄)
      = iprop(semVal (cell3 d L) 0 ∗ semVal (cell4 d L) 0 ∗ semVal (cell5 d L) 0 ∗ semVal (cell0 d L) 0
          ∗ bigSep (restCells d L) fun g => semVal g 0) := by
  unfold SparseCore.Cfg.ownSems0
  rw [SparseCore.bigSep_erase' ((mem_ownCells (g := cell3 d L)).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc0_scratch4.sem : SemLoc sig).isScoped .scVector = true; decide⟩⟩),
    SparseCore.bigSep_erase' (Finset.mem_erase.mpr ⟨by simp [cell4, cell5]; decide, Finset.mem_erase.mpr ⟨by simp [cell3, cell5]; decide,
      (mem_ownCells (g := cell5 d L)).mpr ⟨rfl, by show (SemLoc.dma cc0_scratch5.sem : SemLoc sig).isScoped .scVector = true; decide⟩⟩⟩),
    SparseCore.bigSep_erase' (Finset.mem_erase.mpr ⟨by simp [cell5, cell0]; decide, Finset.mem_erase.mpr ⟨by simp [cell4, cell0]; decide,
      Finset.mem_erase.mpr ⟨by simp [cell3, cell0]; decide,
      (mem_ownCells (g := cell0 d L)).mpr ⟨rfl, by show (SemLoc.dma cc0_scoped0.sem : SemLoc sig).isScoped .scVector = true; decide⟩⟩⟩⟩)]

abbrev restRefs (L : grid0.Coords) : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

omit [FloatOps F] in
/-- The three scratch buffers are among the subcore's own: they are them, at some contents, and the rest. -/
theorem ownBufs_V :
    (ownBufs (thr d L) : sProp 𝕄)
      = iprop((∃ f, (bS).view.loc (thr d L) ↦{fullShare} f) ∗ (∃ f, (bR).view.loc (thr d L) ↦{fullShare} f)
          ∗ (∃ f, (bA).view.loc (thr d L) ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- Where an element of the tile's block lies. -/
theorem aBlk_emb (x : S64x1024.Idx) (a : Fin 3) :
    ((aBlk L).view.emb x a).val = (![(L 0).val, 64 * (L 1).val + (x 0).val, (x 1).val] : Fin 3 → ℕ) a := by
  have hx : x = ValueIdx.ix2 (x 0 : Fin 64) (x 1 : Fin 1024) := ValueIdx.eq_ix2 x
  show (k0_off3 L a) + 1 * (Shape.reshapeEquiv (squeezes_S1x64x1024_S64x1024.numel_eq) x a).val = _
  have hr : Shape.reshapeEquiv (squeezes_S1x64x1024_S64x1024.numel_eq) x = ValueIdx.ix3 (⟨0, Nat.one_pos⟩ : Fin 1) (x 0 : Fin 64) (x 1 : Fin 1024) :=
    (congrArg (Shape.reshapeEquiv (squeezes_S1x64x1024_S64x1024.numel_eq)) hx).trans (ValueIdx.reshapeEquiv_ix2_1ab (a := 64) (b := 1024) _ _ _)
  rw [hr, k0_off3_eq]
  match a with
  | 0 => show (L 0).val + 1 * 0 = (L 0).val; omega
  | 1 => show 64 * (L 1).val + 1 * (x 0).val = 64 * (L 1).val + (x 0).val; omega
  | 2 => show 0 + 1 * (x 1).val = (x 1).val; omega

/-- The tile's rows, written out, are the counts of its block. -/
theorem aBlk_counts (g : Buf (Elt F) (aLoc d)) {w : Vec F S64x1024 .f32} (hw : w = rowsAt m d L 4096) (j : S2x1024x1024.Idx) (hj : j ∈ (aBlk L).view.set) :
    (aBlk L).view.writes (Elt F) g [⟨Rect.whole S64x1024, w⟩] j = counts (m (sLoc d)) (m (rLoc d)) j := by
  obtain ⟨x, -, rfl⟩ := Finset.mem_map.mp hj
  have hrd := (aBlk L).view.read_writes_cons_emb g (Rect.whole S64x1024) w [] x
  rw [Rect.emb_whole_apply, View.read_apply] at hrd
  refine ((cast_eq _ _).symm.trans hrd).trans ?_
  subst hw
  have e0 := aBlk_emb L x 0
  have e1 := aBlk_emb L x 1
  have e2 := aBlk_emb L x 2
  show rowsAt m d L 4096 x = _
  have hx : (x 0).val < 64 := (x 0).isLt
  have d1 : (64 * (L 1).val + (x 0).val) / 64 = (L 1).val := by omega
  have d2 : (64 * (L 1).val + (x 0).val) % 64 = (x 0).val := by omega
  unfold counts
  simp only [e0, e1, Matrix.cons_val_zero, Matrix.cons_val_one]
  unfold tileCount
  simp only [d1, d2]
  refine congrArg _ (funext fun a => ?_)
  match a with
  | 0 => rfl
  | 1 => exact Fin.ext e2.symm

/-- The loop's invariant: the two fetched halves, and the rows after `16 * k` edges. -/
def inv (k : Nat) (_ : Unit) : sProp 𝕄 :=
  iprop(((bS).view.loc (thr d L) ↦{fullShare} wS m d L) ∗ ((bR).view.loc (thr d L) ↦{fullShare} wR m d L)
    ∗ ((bA).view.loc (thr d L) ↦{fullShare} rowsAt m d L (16 * k)))

/-- The first fetch fills the senders' half. -/
theorem fill_s {f : Buf (Elt F) ((bS).view.loc (thr d L))} {w} (hw : w = wS m d L) :
    ((bS).view.loc (thr d L) ↦{fullShare} View.write (Elt F) (bS).view f w Finset.univ : sProp 𝕄) ⊢ (bS).view.loc (thr d L) ↦{fullShare} wS m d L :=
  Entails.of_eq (congrArg _ ((View.write_whole_univ cc0_scratch0 f w).trans hw))
theorem fill_r {f : Buf (Elt F) ((bR).view.loc (thr d L))} {w} (hw : w = wR m d L) :
    ((bR).view.loc (thr d L) ↦{fullShare} View.write (Elt F) (bR).view f w Finset.univ : sProp 𝕄) ⊢ (bR).view.loc (thr d L) ↦{fullShare} wR m d L :=
  Entails.of_eq (congrArg _ ((View.write_whole_univ cc0_scratch1 f w).trans hw))
theorem fill_a {f : Buf (Elt F) ((bA).view.loc (thr d L))} {w} (hw : w = rowsAt m d L (16 * 0)) :
    ((bA).view.loc (thr d L) ↦{fullShare} View.write (Elt F) (bA).view f w Finset.univ : sProp 𝕄) ⊢ (bA).view.loc (thr d L) ↦{fullShare} rowsAt m d L (16 * 0) :=
  Entails.of_eq (congrArg _ ((View.write_whole_univ cc0_scratch2 f w).trans hw))

/-- What a tile is given, and gives back: a share of each operand, whole, and its block of the result at `fa`. -/
def io (q₁ q₂ q₃ : PosShare TreeShare) (fa : Buf (Elt F) (aLoc d)) : sProp 𝕄 :=
  iprop((sLoc d ↦{q₁} m (sLoc d)) ∗ (rLoc d ↦{q₂} m (rLoc d)) ∗ (zLoc d ↦{q₃} zeros (F := F))
    ∗ (aLoc d ↦[(aBlk L).view.set]{fullShare} fa))

/-- The tile's task. -/
theorem tile_body (hpre : PreOK m) (q₁ q₂ q₃ : PosShare TreeShare) (fa : Buf (Elt F) (aLoc d))
    (O : CellTallies nD τ sig (HIx 1)) (W : Waits sig (HIx 1)) (hO : ∀ g, O g none = 0) :
    iprop(levAts (K (F := F)).L (K (F := F)).lev ∗ emp
        ∗ io m d L q₁ q₂ q₃ fa
        ∗ scopedBufs (thr d L) ∗ scopedSems0 (thr d L) ∗ owes (thr d L) O W)
      ⊢ wp frame (wpE (defs₀ (F := F)) 𝒱₀ (thr d L) none) Set.univ
          (cc0__sc_build_a L sV (Memref.isWhole_whole _) rV (Memref.isWhole_whole _) zV (Memref.isWhole_whole _) aV (Memref.isWhole_whole _)
            bS (Memref.isWhole_whole _) bR (Memref.isWhole_whole _) bA (Memref.isWhole_whole _) cc0_scratch3 cc0_scratch4 cc0_scratch5 cc0_scoped0)
          fun _ => iprop(io m d L q₁ q₂ q₃ (counts (m (sLoc d)) (m (rLoc d)))
            ∗ scopedBufs (thr d L) ∗ scopedSems0 (thr d L) ∗ ∃ W', ⌜∀ p ∈ W', p ∈ W ∨ p.2 = none⌝ ∗ owes (thr d L) O W') := by
  simp only [cc0__sc_build_a_eq_skeleton]; unfold cc0__sc_build_a_skel
  rw [(K (F := F)).scopedBufs_V facts d (cV L) (jV L), SparseCore.Cfg.scopedSems0_V (Val := Elt F) d (cV L) (jV L), ownSems0_V, ownBufs_V]
  unfold io
  iintro ⟨#Hlv, -, ⟨Hs, Hr, Hz, Ha⟩, ⟨⟨%f0, Hb0⟩, ⟨%f1, Hb1⟩, ⟨%f2, Hb2⟩, Hbufs⟩, ⟨Hc3, Hc4, Hc5, Hc0, Hsems⟩, HO⟩
  ihave Hmw := ((K (F := F)).mayWaits_none (thr := thr d L) hO) $$ Hlv
  ihave Hs := (Entails.of_eq (show (sLoc d ↦{q₁} m (sLoc d) : sProp 𝕄) = ((sV).view.loc (thr d L) ↦{q₁} m (sLoc d)) from rfl)) $$ Hs
  ihave Hr := (Entails.of_eq (show (rLoc d ↦{q₂} m (rLoc d) : sProp 𝕄) = ((rV).view.loc (thr d L) ↦{q₂} m (rLoc d)) from rfl)) $$ Hr
  ihave Hz := (Entails.of_eq (show (zLoc d ↦{q₃} zeros (F := F) : sProp 𝕄) = ((zV).view.loc (thr d L) ↦{q₃} zeros (F := F)) from rfl)) $$ Hz
  ihave Ha := (Entails.of_eq (show (aLoc d ↦[(aBlk L).view.set]{fullShare} fa : sProp 𝕄) = ((aBlk L).view.loc (thr d L) ↦[(aBlk L).view.set]{fullShare} fa) from rfl)) $$ Ha
  sl_exec
  ihave Hb0 := (fill_s m d L (by rfl)) $$ Hb0
  ihave Hb1 := (fill_r m d L (by rfl)) $$ Hb1
  ihave Hb2 := (fill_a m d L (by rfl)) $$ Hb2
  sl_for (inv m d L) $$ [Hb0 Hb1 Hb2]
  case region =>
    intro k _
    unfold inv
    iintro ⟨Hb0, Hb1, Hb2⟩
    iapply (trip m d L hpre k Set.univ _)
    isplitl [Hb0]; · iexact Hb0
    isplitl [Hb1]; · iexact Hb1
    isplitl [Hb2]; · iexact Hb2
    iintro H
    iexact H
  · unfold inv
    isplitl [Hb0]; · iexact Hb0
    isplitl [Hb1]; · iexact Hb1
    iexact Hb2
  iintro %s' Hinv
  unfold inv
  icases Hinv with ⟨Hb0, Hb1, Hb2⟩
  sl_exec
  sl_step
  isplitl [Hs Hr Hz Ha]
  · isplitl [Hs]; · iexact Hs
    isplitl [Hr]; · iexact Hr
    isplitl [Hz]; · iexact Hz
    iapply (Entails.of_eq (pointsTo_congr (aBlk_counts m d L fa (by show rowsAt m d L (16 * k0_t1_loop.trips) = _; rw [trips_eq]))))
    iexact Ha
  isplitl [Hb0 Hb1 Hb2 Hbufs]
  · isplitl [Hb0]; · iexists _; iexact Hb0
    isplitl [Hb1]; · iexists _; iexact Hb1
    isplitl [Hb2]; · iexists _; iexact Hb2
    iexact Hbufs
  isplitl [Hc3 Hc4 Hc5 Hc0 Hsems]
  · isplitl [Hc3]; · iexact Hc3
    isplitl [Hc4]; · iexact Hc4
    isplitl [Hc5]; · iexact Hc5
    isplitl [Hc0]; · iexact Hc0
    iexact Hsems
  iexists _; isplitr; rotate_left; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Run

end
-- ==== Proof.Deal.lean ====
/-
  What the one SparseCore call carries: to each SparseCore a read share of the three operands and its half of the result, to
  each of its tiles a share of that share and one block of rows.
-/
module

public import proofs.«01_k».proof.Proof.Task

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (m : (ℓ : Loc nD τ sig) → Buf (Elt F) ℓ)

local notation "sV" => (Memref.whole Cert.KernelIdeal.main_arg1_scv : Memref Cert.KernelIdeal.sig Kind.scVector Space.hbm Cert.KernelIdeal.S8192 EltTy.i32)
local notation "rV" => (Memref.whole Cert.KernelIdeal.main_arg2_scv : Memref Cert.KernelIdeal.sig Kind.scVector Space.hbm Cert.KernelIdeal.S8192 EltTy.i32)
local notation "zV" => (Memref.whole Cert.KernelIdeal.main_v0_scv : Memref Cert.KernelIdeal.sig Kind.scVector Space.hbm Cert.KernelIdeal.S64x1024 EltTy.f32)
local notation "aV" => (Memref.whole Cert.KernelIdeal.main_v1_scv : Memref Cert.KernelIdeal.sig Kind.scVector Space.hbm Cert.KernelIdeal.S2x1024x1024 EltTy.f32)
local notation "bS" => (Memref.whole Cert.KernelIdeal.cc0_scratch0 : Memref Cert.KernelIdeal.sig Kind.scVector Space.vmem Cert.KernelIdeal.S4096 EltTy.i32)
local notation "bR" => (Memref.whole Cert.KernelIdeal.cc0_scratch1 : Memref Cert.KernelIdeal.sig Kind.scVector Space.vmem Cert.KernelIdeal.S4096 EltTy.i32)
local notation "bA" => (Memref.whole Cert.KernelIdeal.cc0_scratch2 : Memref Cert.KernelIdeal.sig Kind.scVector Space.vmem Cert.KernelIdeal.S64x1024 EltTy.f32)

def coordsV (c : Fin 2) (s : Fin 16) : grid0.Coords :=
  fun | 0 => (c : Fin (grid0.bound 0)) | 1 => (s : Fin (grid0.bound 1)) | ⟨_ + 2, h⟩ => absurd h (Nat.not_lt.2 (Nat.le_add_left _ _))

theorem nCore_zero : (K (F := F)).nCore 0 = 2 := rfl
theorem nSub_zero : (K (F := F)).nSub 0 = 16 := rfl

/-- A SparseCore's share of an operand, and a tile's. -/
abbrev cq (c : Fin 2) : PosShare TreeShare := Transfers.shareTok fullShare 2 c
abbrev tq (c : Fin 2) (i : Fin 16) : PosShare TreeShare := Transfers.shareTok (cq c) 16 i

/-- A tile's block of the result. -/
abbrev aSet (c : Fin 2) (i : Fin 16) : Finset S2x1024x1024.Idx := (aBlk (coordsV c i)).view.set

/-- What a SparseCore is given and gives back. -/
abbrev cio (d : Dev nD) (c : Fin 2) (fa : Buf (Elt F) (aLoc d)) : sProp 𝕄 :=
  iprop((sLoc d ↦{cq c} m (sLoc d)) ∗ (rLoc d ↦{cq c} m (rLoc d)) ∗ (zLoc d ↦{cq c} zeros (F := F))
    ∗ bigSep Finset.univ fun i : Fin 16 => aLoc d ↦[aSet c i]{fullShare} fa)

def P : (K (F := F)).Pay (nD := nD) (Val := Elt F) (Name := ℕ) (U := UU) where
  st := fun q d c => match q with | 0 => cio m d (Fin.cast nCore_zero c) (m (aLoc d))
  dn := fun q d c => match q with | 0 => cio m d (Fin.cast nCore_zero c) (counts (m (sLoc d)) (m (rLoc d)))
  go := fun q d c i => match q with
    | 0 => io m d (coordsV (Fin.cast nCore_zero c) (Fin.cast nSub_zero i)) (tq (Fin.cast nCore_zero c) (Fin.cast nSub_zero i)) (tq (Fin.cast nCore_zero c) (Fin.cast nSub_zero i)) (tq (Fin.cast nCore_zero c) (Fin.cast nSub_zero i)) (m (aLoc d))
  td := fun q d c i => match q with
    | 0 => io m d (coordsV (Fin.cast nCore_zero c) (Fin.cast nSub_zero i)) (tq (Fin.cast nCore_zero c) (Fin.cast nSub_zero i)) (tq (Fin.cast nCore_zero c) (Fin.cast nSub_zero i)) (tq (Fin.cast nCore_zero c) (Fin.cast nSub_zero i)) (counts (m (sLoc d)) (m (rLoc d)))
  x := fun _ _ => iprop(emp)

instance io_storable (d : Dev nD) (L : grid0.Coords) (q₁ q₂ q₃ : PosShare TreeShare) (fa : Buf (Elt F) (aLoc d)) :
    BI.Storable (upEmb : UEmb _ 𝕄) (io m d L q₁ q₂ q₃ fa) := by unfold io; infer_instance

instance P_storable : (P (F := F) m).IsStorable where
  st q d _ := match q with
    | 0 => (inferInstance : BI.Storable (upEmb : UEmb _ 𝕄) (cio m d _ _))
  dn q d _ := match q with
    | 0 => (inferInstance : BI.Storable (upEmb : UEmb _ 𝕄) (cio m d _ _))
  go q d _ i := match q with
    | 0 => (inferInstance : BI.Storable (upEmb : UEmb _ 𝕄) (io m d _ _ _ _ _))
  td q d _ i := match q with
    | 0 => (inferInstance : BI.Storable (upEmb : UEmb _ 𝕄) (io m d _ _ _ _ _))

theorem defs₀_vector (c : Fin τ.nSC) (s : Fin τ.nSub) :
    defs₀ (F := F) (.scVector c s) 0 ()
      = SparseCore.onTile hcore0 hsub0 (fun c s => cc0__sc_build_a (coordsV c s)
          sV (Memref.isWhole_whole _) rV (Memref.isWhole_whole _) zV (Memref.isWhole_whole _) aV (Memref.isWhole_whole _)
          bS (Memref.isWhole_whole _) bR (Memref.isWhole_whole _) bA (Memref.isWhole_whole _) cc0_scratch3 cc0_scratch4 cc0_scratch5 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre _ _ _ _ O W hO).trans (wp_mono frame _ _ fun _ => obl_post)

/-- A tile's part, by its number. -/
def tileIo (d : Dev nD) (c : Fin 2) (fa : Buf (Elt F) (aLoc d)) (i : Fin 16) : sProp 𝕄 :=
  io m d (coordsV c i) (tq c i) (tq c i) (tq c i) fa

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- The sixteen tiles' parts, together. -/
theorem io_tiles (d : Dev nD) (c : Fin 2) (fa : Buf (Elt F) (aLoc d)) :
    (bigSep Finset.univ (tileIo m d c fa) : sProp 𝕄)
      = iprop((bigSep Finset.univ fun i : Fin 16 => sLoc d ↦{tq c i} m (sLoc d)) ∗ (bigSep Finset.univ fun i : Fin 16 => rLoc d ↦{tq c i} m (rLoc d))
        ∗ (bigSep Finset.univ fun i : Fin 16 => zLoc d ↦{tq c i} zeros (F := F)) ∗ (bigSep Finset.univ fun i : Fin 16 => aLoc d ↦[aSet c i]{fullShare} fa)) := by
  show (bigSep Finset.univ fun i : Fin 16 => iprop((sLoc d ↦{tq c i} m (sLoc d)) ∗ (rLoc d ↦{tq c i} m (rLoc d)) ∗ (zLoc d ↦{tq c i} zeros (F := F))
    ∗ (aLoc d ↦[aSet c i]{fullShare} fa)) : sProp 𝕄) = _
  rw [bigSep_sep', bigSep_sep', bigSep_sep']

theorem vecSplit : (K (F := F)).VecSplit' (P m) 0 := by
  intro d c
  show cio m d (Fin.cast nCore_zero c) (m (aLoc d)) ⊢ |={Set.univ}=> iprop(
      (bigSep Finset.univ fun i : Fin ((K (F := F)).nSub 0) => tileIo m d (Fin.cast nCore_zero c) (m (aLoc d)) (Fin.cast nSub_zero i))
      ∗ ((bigSep Finset.univ fun i : Fin ((K (F := F)).nSub 0) => tileIo m d (Fin.cast nCore_zero c) (counts (m (sLoc d)) (m (rLoc d))) (Fin.cast nSub_zero i))
          -∗ cio m d (Fin.cast nCore_zero c) (counts (m (sLoc d)) (m (rLoc d)))))
  generalize Fin.cast nCore_zero c = c
  rw [bigSep_tasks (F := F) (tileIo m d c (m (aLoc d))), bigSep_tasks (F := F) (tileIo m d c (counts (m (sLoc d)) (m (rLoc d)))), io_tiles, io_tiles]
  unfold cio
  iintro ⟨Hs, Hr, Hz, Ha⟩
  ihave Hs := (Transfers.pointsTo_toks_split (cq c) 16) $$ Hs
  ihave Hr := (Transfers.pointsTo_toks_split (cq c) 16) $$ Hr
  ihave Hz := (Transfers.pointsTo_toks_split (cq c) 16) $$ Hz
  icases Hs with ⟨Hs', Hs⟩
  icases Hr with ⟨Hr', Hr⟩
  icases Hz with ⟨Hz', Hz⟩
  imodintro
  isplitl [Hs Hr Hz Ha]
  · isplitl [Hs]; · iexact Hs
    isplitl [Hr]; · iexact Hr
    isplitl [Hz]; · iexact Hz
    iexact Ha
  iintro ⟨Hs, Hr, Hz, Ha⟩
  isplitl [Hs Hs']
  · iapply (Transfers.pointsTo_toks_join (cq c) 16); isplitl [Hs'] <;> iassumption
  isplitl [Hr Hr']
  · iapply (Transfers.pointsTo_toks_join (cq c) 16); isplitl [Hr'] <;> iassumption
  isplitl [Hz Hz']
  · iapply (Transfers.pointsTo_toks_join (cq c) 16); isplitl [Hz'] <;> iassumption
  iexact Ha

/-! ## The two SparseCores together -/

/-- Where a block's elements lie. -/
theorem mem_aSet (c : Fin 2) (i : Fin 16) (j : S2x1024x1024.Idx) : j ∈ aSet c i ↔ (j 0).val = c.val ∧ (j 1).val / 64 = i.val := by
  constructor
  · intro h
    obtain ⟨x, -, rfl⟩ := Finset.mem_map.mp h
    have e0 := aBlk_emb (coordsV c i) x 0
    have e1 := aBlk_emb (coordsV c i) x 1
    have hx : (x 0).val < 64 := (x 0).isLt
    refine ⟨e0, ?_⟩
    have e1' : ((aBlk (coordsV c i)).view.emb x 1).val = 64 * i.val + (x 0).val := e1
    omega
  · rintro ⟨h0, h1⟩
    have hlt : (j 1).val % 64 < 64 := Nat.mod_lt _ (by decide)
    refine Finset.mem_map.mpr ⟨ValueIdx.ix2 (⟨(j 1).val % 64, hlt⟩ : Fin 64) (j 2 : Fin 1024), Finset.mem_univ _, ?_⟩
    funext a; apply Fin.ext
    refine (aBlk_emb (coordsV c i) _ a).trans ?_
    match a with
    | 0 => exact h0.symm
    | 1 => show 64 * i.val + (j 1).val % 64 = (j 1).val; omega
    | 2 => rfl

theorem blocks_disjoint : ∀ p ∈ (Finset.univ : Finset (Fin 2 × Fin 16)), ∀ q ∈ (Finset.univ : Finset (Fin 2 × Fin 16)), p ≠ q → Disjoint (aSet p.1 p.2) (aSet q.1 q.2) := by
  intro p _ q _ h
  refine Finset.disjoint_left.mpr fun j h1 h2 => h ?_
  obtain ⟨a, b⟩ := (mem_aSet _ _ _).mp h1
  obtain ⟨a', b'⟩ := (mem_aSet _ _ _).mp h2
  exact Prod.ext (Fin.ext (a.symm.trans a')) (Fin.ext (b.symm.trans b'))

theorem blocks_cover : (Finset.univ : Finset (Fin 2 × Fin 16)).biUnion (fun p => aSet p.1 p.2) = Finset.univ := by
  refine Finset.eq_univ_of_forall fun j => Finset.mem_biUnion.mpr ?_
  have h1 : (j 1).val < 1024 := (j 1).isLt
  exact ⟨((j 0 : Fin 2), (⟨(j 1).val / 64, by omega⟩ : Fin 16)), Finset.mem_univ _, (mem_aSet _ _ _).mpr ⟨rfl, rfl⟩⟩

theorem a_blocks (d : Dev nD) (f : Buf (Elt F) (aLoc d)) :
    (bigSep Finset.univ fun c : Fin 2 => bigSep Finset.univ fun i : Fin 16 => aLoc d ↦[aSet c i]{fullShare} f : sProp 𝕄) = aLoc d ↦{fullShare} f := by
  refine Eq.trans ?_ ((pointsTo_biUnion Finset.univ (ℓ := aLoc d) (fun p : Fin 2 × Fin 16 => aSet p.1 p.2) blocks_disjoint).symm.trans (by rw [blocks_cover]))
  exact (bigSep_univ_prod (fun p : Fin 2 × Fin 16 => (aLoc d ↦[aSet p.1 p.2]{fullShare} f : sProp 𝕄))).symm

/-- What the TensorCore keeps of the operands during the call. -/
abbrev kept (d : Dev nD) : sProp 𝕄 :=
  iprop((sLoc d ↦{Transfers.shareDrop fullShare 2} m (sLoc d)) ∗ (rLoc d ↦{Transfers.shareDrop fullShare 2} m (rLoc d)) ∗ (zLoc d ↦{Transfers.shareDrop fullShare 2} zeros (F := F)))

theorem cio_cores (d : Dev nD) (fa : Buf (Elt F) (aLoc d)) :
    (bigSep Finset.univ fun c : Fin 2 => cio m d c fa : sProp 𝕄)
      = iprop((bigSep Finset.univ fun c : Fin 2 => sLoc d ↦{cq c} m (sLoc d)) ∗ (bigSep Finset.univ fun c : Fin 2 => rLoc d ↦{cq c} m (rLoc d))
        ∗ (bigSep Finset.univ fun c : Fin 2 => zLoc d ↦{cq c} zeros (F := F)) ∗ (aLoc d ↦{fullShare} fa)) := by
  unfold cio
  rw [bigSep_sep', bigSep_sep', bigSep_sep', a_blocks]

theorem give (d : Dev nD) :
    iprop((sLoc d ↦{fullShare} m (sLoc d)) ∗ (rLoc d ↦{fullShare} m (rLoc d)) ∗ (zLoc d ↦{fullShare} zeros (F := F)) ∗ (aLoc d ↦{fullShare} m (aLoc d)))
      ⊢ (iprop(kept m d ∗ bigSep Finset.univ fun c : Fin ((K (F := F)).nCore 0) => (P m).st 0 d c) : sProp 𝕄) := by
  show _ ⊢ iprop(kept m d ∗ bigSep Finset.univ fun c : Fin ((K (F := F)).nCore 0) => cio m d (Fin.cast nCore_zero c) (m (aLoc d)))
  rw [bigSep_cores (F := F) (fun c => cio m d c (m (aLoc d))), cio_cores]
  iintro ⟨Hs, Hr, Hz, Ha⟩
  ihave Hs := (Transfers.pointsTo_toks_split fullShare 2) $$ Hs
  ihave Hr := (Transfers.pointsTo_toks_split fullShare 2) $$ Hr
  ihave Hz := (Transfers.pointsTo_toks_split fullShare 2) $$ Hz
  icases Hs with ⟨Hs', Hs⟩
  icases Hr with ⟨Hr', Hr⟩
  icases Hz with ⟨Hz', Hz⟩
  isplitl [Hs' Hr' Hz']
  · isplitl [Hs']; · iexact Hs'
    isplitl [Hr']; · iexact Hr'
    iexact Hz'
  isplitl [Hs]; · iexact Hs
  isplitl [Hr]; · iexact Hr
  isplitl [Hz]; · iexact Hz
  iexact Ha

theorem take (d : Dev nD) :
    (iprop(kept m d ∗ bigSep Finset.univ fun c : Fin ((K (F := F)).nCore 0) => (P m).dn 0 d c) : sProp 𝕄)
      ⊢ iprop((sLoc d ↦{fullShare} m (sLoc d)) ∗ (rLoc d ↦{fullShare} m (rLoc d)) ∗ (zLoc d ↦{fullShare} zeros (F := F)) ∗ (aLoc d ↦{fullShare} counts (m (sLoc d)) (m (rLoc d)))) := by
  show iprop(kept m d ∗ bigSep Finset.univ fun c : Fin ((K (F := F)).nCore 0) => cio m d (Fin.cast nCore_zero c) (counts (m (sLoc d)) (m (rLoc d)))) ⊢ _
  rw [bigSep_cores (F := F) (fun c => cio m d c (counts (m (sLoc d)) (m (rLoc d)))), cio_cores]
  iintro ⟨⟨Hs', Hr', Hz'⟩, Hs, Hr, Hz, Ha⟩
  isplitl [Hs Hs']
  · iapply (Transfers.pointsTo_toks_join fullShare 2); isplitl [Hs'] <;> iassumption
  isplitl [Hr Hr']
  · iapply (Transfers.pointsTo_toks_join fullShare 2); isplitl [Hr'] <;> iassumption
  isplitl [Hz Hz']
  · iapply (Transfers.pointsTo_toks_join fullShare 2); isplitl [Hz'] <;> iassumption
  iexact Ha

end Cert.Proof.Run

end
-- ==== Proof.Readout.lean ====
/-
  The readout kernel on the TensorCore: from the two partial count matrices, the weights and the bias, the result at one closed
  expression of the printed payloads.
-/
module

public import proofs.«01_k».proof.Proof.Setup
public import proofs.«01_k».proof.Proof.Gen.KernelIdeal.Skeleton
public import proofs.«01_k».proof.Proof.Gen.KernelIdeal.Points
public import Idealize.ShloMosaic.Lib.VecWindow
public import Idealize.ShloMosaic.Lib.Tactic

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One of the two partial count matrices. -/
def slab0 (a : Vec F S2x1024x1024 .f32) : Vec F S1x1024x1024 .f32 := fun x => a (fun | 0 => (0 : Fin 2) | 1 => x 1 | 2 => x 2)
def slab1 (a : Vec F S2x1024x1024 .f32) : Vec F S1x1024x1024 .f32 := fun x => a (fun | 0 => (1 : Fin 2) | 1 => x 1 | 2 => x 2)
/-- A row of the weights. -/
def wRow (w : Vec F S8x128 .f32) (k : Fin 8) : Vec F S1x128 .f32 := fun x => w (fun | 0 => k | 1 => x 1)

/-- What the readout computes. -/
def readout (a : Vec F S2x1024x1024 .f32) (w : Vec F S8x128 .f32) (b : Vec F S1x128 .f32) : Vec F S1024x128 .f32 :=
  k1_pay1 (k1_pay14 (slab0 a) (slab1 a)) (k1_pay16 (k1_pay15 (slab0 a) (slab1 a)))
    (k1_pay17 (k1_pay8 (slab0 a) (slab1 a)) (k1_pay9 (slab0 a) (slab1 a)) (k1_pay10 (slab0 a) (slab1 a)) (k1_pay11 (slab0 a) (slab1 a))
      (k1_pay12 (slab0 a) (slab1 a)) b (wRow w 0) (wRow w 1) (wRow w 2) (wRow w 3) (wRow w 4))
    (k1_pay18 (k1_pay13 (slab0 a) (slab1 a))) (wRow w 5) (wRow w 6) (wRow w 7)

abbrev ptr (c : Dev nD) {sp : Space} {S : Shape} {e : EltTy} (M : Memref sig .tc sp S e) (f : Buf (Elt F) (M.view.loc (c : Thread nD τ))) : sProp 𝕄 :=
  M.view.loc (c : Thread nD τ) ↦{fullShare} f

/-! The loads and the store, over the whole staging buffers. -/

theorem load_slab0 (f : Vec F S2x1024x1024 .f32) :
    View.readAt (Elt F) (stage1_0 0).view (Rect.unit (s := S2x1024x1024) ![0, 0, 0] S1x1024x1024.size inb_S2x1024x1024_S1x1024x1024_0_0_0).toLoadRect f = slab0 f := by
  funext x
  refine congrArg f (funext fun a => Fin.ext ?_)
  refine (LoadRect.idx_apply _ _ _).trans ?_
  match a with
  | 0 => show 0 + 1 * (x 0).val = 0; have : (x 0).val < 1 := (x 0).isLt; omega
  | 1 => show 0 + 1 * (x 1).val = (x 1).val; omega
  | 2 => show 0 + 1 * (x 2).val = (x 2).val; omega

theorem load_slab1 (f : Vec F S2x1024x1024 .f32) :
    View.readAt (Elt F) (stage1_0 0).view (Rect.unit (s := S2x1024x1024) ![1, 0, 0] S1x1024x1024.size inb_S2x1024x1024_S1x1024x1024_1_0_0).toLoadRect f = slab1 f := by
  funext x
  refine congrArg f (funext fun a => Fin.ext ?_)
  refine (LoadRect.idx_apply _ _ _).trans ?_
  match a with
  | 0 => show 1 + 1 * (x 0).val = 1; have : (x 0).val < 1 := (x 0).isLt; omega
  | 1 => show 0 + 1 * (x 1).val = (x 1).val; omega
  | 2 => show 0 + 1 * (x 2).val = (x 2).val; omega

/-- A row of the weights, loaded. -/
theorem load_row (f : Vec F S8x128 .f32) (n : ℕ) (k : Fin 8) (hk : n = k.val) (h : ∀ a, (![n, 0] : Fin 2 → ℕ) a + S1x128.size a ≤ S8x128.size a) :
    View.readAt (Elt F) (stage1_1 0).view (Rect.unit (s := S8x128) ![n, 0] S1x128.size h).toLoadRect f = wRow f k := by
  funext x
  refine congrArg f (funext fun a => Fin.ext ?_)
  refine (LoadRect.idx_apply _ _ _).trans ?_
  match a with
  | 0 => show n + 1 * (x 0).val = k.val; have : (x 0).val < 1 := (x 0).isLt; omega
  | 1 => show 0 + 1 * (x 1).val = (x 1).val; omega

theorem load_b (f : Vec F S1x128 .f32) :
    View.readAt (Elt F) (stage1_2 0).view (Rect.unit (s := S1x128) ![0, 0] S1x128.size inb_S1x128_S1x128_0_0).toLoadRect f = f := by
  funext x
  refine congrArg f (funext fun a => Fin.ext ?_)
  refine (LoadRect.idx_apply _ _ _).trans ?_
  match a with
  | 0 => show 0 + 1 * (x 0).val = (x 0).val; omega
  | 1 => show 0 + 1 * (x 1).val = (x 1).val; omega

theorem store_all (f w : Vec F S1024x128 .f32) :
    (stage1_3 0).view.writes (Elt F) f [⟨Rect.unit (s := S1024x128) ![0, 0] S1024x128.size inb_S1024x128_S1024x128_0_0, w⟩] = w := by
  have h := View.read_writes_full (Val := Elt F) (stage1_3 0).view f (off := ![0, 0]) inb_S1024x128_S1024x128_0_0 w []
  generalize (stage1_3 0).view.writes (Elt F) f [⟨Rect.unit (s := S1024x128) ![0, 0] S1024x128.size inb_S1024x128_S1024x128_0_0, w⟩] = g at h ⊢
  exact (View.read_whole (Val := Elt F) cc1_stg3_0 g).symm.trans h

theorem stored (f0 : Vec F S2x1024x1024 .f32) (f1 : Vec F S8x128 .f32) (f2 : Vec F S1x128 .f32) (f3 : Vec F S1024x128 .f32)
    {s0 s1 : Vec F S1x1024x1024 .f32} {w0 w1 w2 w3 w4 w5 w6 w7 b : Vec F S1x128 .f32}
    (h0 : s0 = slab0 f0) (h1 : s1 = slab1 f0) (hb : b = f2)
    (g0 : w0 = wRow f1 0) (g1 : w1 = wRow f1 1) (g2 : w2 = wRow f1 2) (g3 : w3 = wRow f1 3) (g4 : w4 = wRow f1 4) (g5 : w5 = wRow f1 5)
    (g6 : w6 = wRow f1 6) (g7 : w7 = wRow f1 7) :
    (stage1_3 0).view.writes (Elt F) f3 [⟨Rect.unit (s := S1024x128) ![0, 0] S1024x128.size inb_S1024x128_S1024x128_0_0,
      k1_pay1 (k1_pay14 s0 s1) (k1_pay16 (k1_pay15 s0 s1))
        (k1_pay17 (k1_pay8 s0 s1) (k1_pay9 s0 s1) (k1_pay10 s0 s1) (k1_pay11 s0 s1) (k1_pay12 s0 s1) b w0 w1 w2 w3 w4)
        (k1_pay18 (k1_pay13 s0 s1)) w5 w6 w7⟩] = readout f0 f1 f2 := by
  subst h0 h1 hb g0 g1 g2 g3 g4 g5 g6 g7
  exact store_all _ _

theorem readout_run (c : Dev nD) (f0 : Vec F S2x1024x1024 .f32) (f1 : Vec F S8x128 .f32) (f2 : Vec F S1x128 .f32) (f3 : Vec F S1024x128 .f32)
    (E : Set ℕ) (Q : PUnit → sProp 𝕄) :
    iprop(ptr c (stage1_0 0) f0 ∗ ptr c (stage1_1 0) f1 ∗ ptr c (stage1_2 0) f2 ∗ ptr c (stage1_3 0) f3
        ∗ (iprop(ptr c (stage1_0 0) f0 ∗ ptr c (stage1_1 0) f1 ∗ ptr c (stage1_2 0) f2 ∗ ptr c (stage1_3 0) (readout f0 f1 f2)) -∗ Q ⟨⟩))
      ⊢ wp frame (wpE (defs₀ (F := F)) Variants.none (c : Thread nD τ) none) E
          (cc1__tc_body (stage1_0 0) (hstage1_0 0) (stage1_1 0) (hstage1_1 0) (stage1_2 0) (hstage1_2 0) (stage1_3 0) (hstage1_3 0)) Q := by
  simp only [cc1__tc_body_eq_skeleton]; unfold cc1__tc_body_skel
  simp only [k1_part1_eq_skeleton, k1_part2_eq_skeleton, k1_part1_skel, k1_part2_skel]
  iintro ⟨H0, H1, H2, H3, Hk⟩
  sl_exec
  ihave H3 := Entails.of_eq (congrArg (ptr c (stage1_3 0)) (stored f0 f1 f2 f3 (load_slab0 f0) (load_slab1 f0) (load_b f2) (load_row f1 0 0 rfl inb_S8x128_S1x128_0_0) (load_row f1 1 1 rfl inb_S8x128_S1x128_1_0)
    (load_row f1 2 2 rfl inb_S8x128_S1x128_2_0) (load_row f1 3 3 rfl inb_S8x128_S1x128_3_0) (load_row f1 4 4 rfl inb_S8x128_S1x128_4_0) (load_row f1 5 5 rfl inb_S8x128_S1x128_5_0) (load_row f1 6 6 rfl inb_S8x128_S1x128_6_0) (load_row f1 7 7 rfl inb_S8x128_S1x128_7_0))) $$ H3
  sl_step
  iapply Hk
  isplitl [H0]; iexact H0
  isplitl [H1]; iexact H1
  isplitl [H2]; iexact H2
  iexact H3

end Cert.Proof.Run

end
-- ==== Proof.Region.lean ====
/-
  The readout call, as @main runs it: entered from any contents of the unscoped buffers, left with the result's array at
  `readout` of the count matrices', the weights' and the bias row's arrays, everything else as it was.
-/
module

public import proofs.«01_k».proof.Proof.Readout
public import Idealize.ShloMosaic.Lib.Pipeline.RegionsLoop
public import Idealize.ShloMosaic.Lib.Pipeline.ValueKit

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

namespace R

variable (V : (c : Dev nD) → (b : Ref sig .tc) → Buf (Elt F) ((c : Thread nD τ).loc b))

/-! The three fetched blocks are the arrays. -/

abbrev stgA (c : Dev nD) : Vec F S2x1024x1024 .f32 := ((cfg1.win 0).blk t1_0).view.read (Elt F) (V c main_v1)
abbrev stgW (c : Dev nD) : Vec F S8x128 .f32 := ((cfg1.win 1).blk t1_0).view.read (Elt F) (V c main_arg3)
abbrev stgB (c : Dev nD) : Vec F S1x128 .f32 := ((cfg1.win 2).blk t1_0).view.read (Elt F) (V c main_v2)

theorem stgA_eq (c : Dev nD) : stgA V c = V c main_v1 := by
  funext y
  refine congrArg (V c main_v1) (funext fun a => Fin.ext ?_)
  match a with
  | 0 => show 0 * 2 + 1 * (y 0).val = (y 0).val; omega
  | 1 => show 0 * 1024 + 1 * (y 1).val = (y 1).val; omega
  | 2 => show 0 * 1024 + 1 * (y 2).val = (y 2).val; omega

theorem stgW_eq (c : Dev nD) : stgW V c = V c main_arg3 := by
  funext y
  refine congrArg (V c main_arg3) (funext fun a => Fin.ext ?_)
  match a with
  | 0 => show 0 * 8 + 1 * (y 0).val = (y 0).val; omega
  | 1 => show 0 * 128 + 1 * (y 1).val = (y 1).val; omega

theorem stgB_eq (c : Dev nD) : stgB V c = V c main_v2 := by
  funext y
  refine congrArg (V c main_v2) (funext fun a => Fin.ext ?_)
  match a with
  | 0 => show 0 * 1 + 1 * (y 0).val = (y 0).val; omega
  | 1 => show 0 * 128 + 1 * (y 1).val = (y 1).val; omega

/-- The region's proof data: the arrays at the entry's contents; after the body the fetched blocks as fetched and the
    result's staging buffer at `readout` of them; nothing owed; every wait recorded at or below the call's level. -/
def dat (c : Dev nD) : Dat τ (Elt F) (HIx 1) ℕ UU ℕ cfg1 c where
  A w := V c (Pipeline.arrRef spec1 w)
  after w _ := match w with
    | ⟨0, _⟩ => stgA V c
    | ⟨1, _⟩ => stgW V c
    | ⟨2, _⟩ => stgB V c
    | ⟨3, _⟩ => readout (stgA V c) (stgW V c) (stgB V c)
  Φ _ := BI.emp
  q _ := fullShare
  owed _ := 0
  recorded _ := {p | (K (F := F)).lev (SparseCore.T c, p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before_A (c : Dev nD) (d : (cfg1.win 0).block.Idx → Elt F (cfg1.win 0).elt) : (dat V c).before 0 t1_0 d = stgA V c := by
  unfold Dat.before; rw [if_pos (by decide)]; rfl
theorem before_W (c : Dev nD) (d : (cfg1.win 1).block.Idx → Elt F (cfg1.win 1).elt) : (dat V c).before 1 t1_0 d = stgW V c := by
  unfold Dat.before; rw [if_pos (by decide)]; rfl
theorem before_B (c : Dev nD) (d : (cfg1.win 2).block.Idx → Elt F (cfg1.win 2).elt) : (dat V c).before 2 t1_0 d = stgB V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = BI.emp from rfl, show (dat V c).Φ t1_0.succ = BI.emp from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_A] at hf0
  rw [before_W] at hf1
  rw [before_B] at hf2
  subst hf0 hf1 hf2
  iapply (readout_run c (stgA V c) (stgW V c) (stgB V c) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The result's array after the region. -/
theorem result (c : Dev nD) : (dat V c).arrAt 3 cfg1.N = readout (V c main_v1) (V c main_arg3) (V c main_v2) := by
  refine (dat V c).arrAt_eq_of_after_last 3 t1_0 (by decide +kernel) _ fun j => ?_
  refine (cast_eq _ _).trans ?_
  show readout (stgA V c) (stgW V c) (stgB V c) _ = _
  rw [stgA_eq, stgW_eq, stgB_eq]
  rfl

variable (Vp : (c : Dev nD) → (b : Ref sig .tc) → Buf (Elt F) ((c : Thread nD τ).loc b))

set_option backward.isDefEq.respectTransparency.types false in
/-- The region, over every unscoped buffer at `V` and the core's waits at or below the call's level. -/
def reg (hVp_out : ∀ c, Vp c main_v3 = readout (V c main_v1) (V c main_arg3) (V c main_v2))
    (hVp_ne : ∀ c (b : Ref sig .tc), b ≠ main_v3 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (SparseCore.T c) W 8⌝ ∗ owes (c : Thread nD τ) (0 : CellTallies nD τ sig (HIx 1)) W)
  post c := iprop(unscopedBufs c (Vp c) ∗ ∃ W, ⌜(K (F := F)).WBelow (SparseCore.T c) W 8⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = BI.emp from rfl]
    rw [show Pipeline.scopedRest (Pipeline.pin (pcfgs (F := F)) adm 0).spec c = BI.emp from scopedRest1_eq c]
    iintro ⟨-, -, Hr⟩; iexact Hr
  hout c := by
    rw [Pipeline.ownSems0_none, show (pdats V adm 0 c).Φ (Fin.last _) = BI.emp from rfl]
    rw [show Pipeline.scopedRest (Pipeline.pin (pcfgs (F := F)) adm 0).spec c = BI.emp from scopedRest1_eq c]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v1 (by decide)).symm
        · exact ((pdats V adm 0 c).arrAt_in 1 rfl _).trans (hVp_ne c main_arg3 (by decide)).symm
        · exact ((pdats V adm 0 c).arrAt_in 2 rfl _).trans (hVp_ne c main_v2 (by decide)).symm
        · exact (result V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le 8
    iexact HO

end R

end Cert.Proof.Run

end
-- ==== Proof.Main.lean ====
/-
  @main on the TensorCore, and the program's run: the zeros are written, the SparseCores count the edges, the bias is
  reshaped, the readout call computes the result. At the end the five arguments are as they were and the result is
  `readout` of the counts, the weights and the reshaped bias.
-/
module

public import proofs.«01_k».proof.Proof.Deal
public import proofs.«01_k».proof.Proof.Region
public import Idealize.ShloMosaic.Lib.SparseCore.Quiescent
public import Idealize.ShloMosaic.Lib.StableHlo.Run

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's buffers at a valuation -/

/-- The TensorCore's unscoped references. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = held (SparseCore.T c) ucRefs W := by
  unfold unscopedBufs held ucRefs StableHlo.tcRefs
  rw [Finset.filter_map, bigSep_map]
  rfl

/-- The buffers the SparseCore call does not touch. -/
def rest (d : Dev nD) (W : Valuation τ sig (Elt F)) : sProp 𝕄 :=
  iprop(((SparseCore.T d).loc main_arg0 ↦{fullShare} W (Proc.devRef .tc main_arg0)) ∗ ((SparseCore.T d).loc main_arg3 ↦{fullShare} W (Proc.devRef .tc main_arg3))
    ∗ ((SparseCore.T d).loc main_arg4 ↦{fullShare} W (Proc.devRef .tc main_arg4)) ∗ ((SparseCore.T d).loc main_cst ↦{fullShare} W (Proc.devRef .tc main_cst))
    ∗ ((SparseCore.T d).loc main_v2 ↦{fullShare} W (Proc.devRef .tc main_v2)) ∗ ((SparseCore.T d).loc main_v3 ↦{fullShare} W (Proc.devRef .tc main_v3)))

theorem unscopedBufs_eq (d : Dev nD) (W : Valuation τ sig (Elt F)) :
    (unscopedBufs d (fun b => W b) : sProp 𝕄)
      = iprop((sLoc d ↦{fullShare} W (Proc.devRef .tc main_arg1)) ∗ (rLoc d ↦{fullShare} W (Proc.devRef .tc main_arg2)) ∗ (zLoc d ↦{fullShare} W (Proc.devRef .tc main_v0))
          ∗ (aLoc d ↦{fullShare} W (Proc.devRef .tc main_v1)) ∗ rest d W) := by
  unfold unscopedBufs rest
  rw [show (Finset.univ.filter fun b : Ref sig .tc => ¬ b.isScoped)
      = {main_arg1, main_arg2, main_v0, main_v1, main_arg0, main_arg3, main_arg4, main_cst, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The valuations between @main's statements -/

abbrev opCst : HloOp τ sig (Elt F) := StableHlo.nullary main_cst (constant S_ .f32 0x00000000#32)
abbrev opBc : HloOp τ sig (Elt F) :=
  StableHlo.unary main_cst main_v0 (broadcastInDim S64x1024 ![] bcast_S_S64x1024 : (⟨S_, .f32⟩ : BufTy).Contents (Elt F) → (⟨S64x1024, .f32⟩ : BufTy).Contents (Elt F))
abbrev opRs : HloOp τ sig (Elt F) := StableHlo.reshape main_arg4 main_v2 (rfl : (.f32 : EltTy) = .f32) shapeCasts_S128_S1x128

theorem hCst : (opCst (F := F)).bufs ⊆ ucRefs := show ({Proc.devRef .tc main_cst} : Finset (DevRef τ sig)) ⊆ ucRefs by decide
theorem hBc : (opBc (F := F)).bufs ⊆ ucRefs := show ({Proc.devRef .tc main_cst, Proc.devRef .tc main_v0} : Finset (DevRef τ sig)) ⊆ ucRefs by decide
theorem hRs : (opRs (F := F)).bufs ⊆ ucRefs := show ({Proc.devRef .tc main_arg4, Proc.devRef .tc main_v2} : Finset (DevRef τ sig)) ⊆ ucRefs by decide

def V0 (d : Dev nD) : Valuation τ sig (Elt F) := fun b => m (d, b)
def V2 (d : Dev nD) : Valuation τ sig (Elt F) := (opBc (F := F)).result ((opCst (F := F)).result (V0 m d))
def V3 (d : Dev nD) : Valuation τ sig (Elt F) := Function.update (V2 m d) (Proc.devRef .tc main_v1) (counts (m (sLoc d)) (m (rLoc d)))
def V4 (d : Dev nD) : Valuation τ sig (Elt F) := (opRs (F := F)).result (V3 m d)

/-- The bias as the readout call takes it: one row. -/
def biasRow (d : Dev nD) : Vec F S1x128 .f32 := shapeCast S1x128 (m ((SparseCore.T d).loc main_arg4)) shapeCasts_S128_S1x128

/-- The result. -/
def out (d : Dev nD) : Vec F S1024x128 .f32 :=
  readout (counts (m (sLoc d)) (m (rLoc d))) (m ((SparseCore.T d).loc main_arg3)) (biasRow m d)

def V5 (d : Dev nD) : Valuation τ sig (Elt F) := Function.update (V4 m d) (Proc.devRef .tc main_v3) (out m d)

theorem V2_ne (d : Dev nD) (r : Ref sig .tc) (h : r ≠ main_cst) (h' : r ≠ main_v0) : V2 m d (Proc.devRef .tc r) = m ((SparseCore.T d).loc r) :=
  (StableHlo.unary_result_ne _ _ _ _ _ _ h').trans ((StableHlo.nullary_result_ne _ _ _ _ h).trans rfl)

theorem V2_v0 (d : Dev nD) : V2 m d (Proc.devRef .tc main_v0) = zeros (F := F) :=
  (StableHlo.unary_result _ _ _ _ _ _).trans (congrArg _ (StableHlo.nullary_result _ _ _ _))

theorem devRef_ne {r r' : Ref sig .tc} (h : r ≠ r') : (Proc.devRef (τ := τ) .tc r) ≠ Proc.devRef .tc r' := fun e => h (Proc.devRef_injective _ e)

theorem V3_ne (d : Dev nD) (r : Ref sig .tc) (h : r ≠ main_v1) : V3 m d (Proc.devRef .tc r) = V2 m d (Proc.devRef .tc r) :=
  Function.update_of_ne (devRef_ne h) _ _
theorem V3_v1 (d : Dev nD) : V3 m d (Proc.devRef .tc main_v1) = counts (m (sLoc d)) (m (rLoc d)) := Function.update_self _ _ _
theorem V4_ne (d : Dev nD) (r : Ref sig .tc) (h : r ≠ main_v2) : V4 m d (Proc.devRef .tc r) = V3 m d (Proc.devRef .tc r) :=
  StableHlo.reshape_result_ne _ _ _ _ _ _ _ h
theorem V4_v2 (d : Dev nD) : V4 m d (Proc.devRef .tc main_v2) = biasRow m d := by
  refine (StableHlo.reshape_result _ _ _ _ _ _ _).trans ?_
  show shapeCast S1x128 (V3 m d (Proc.devRef .tc main_arg4)) shapeCasts_S128_S1x128 = _
  rw [V3_ne m d main_arg4 (by decide), V2_ne m d main_arg4 (by decide) (by decide)]
  rfl
theorem V4_v1 (d : Dev nD) : V4 m d (Proc.devRef .tc main_v1) = counts (m (sLoc d)) (m (rLoc d)) := (V4_ne m d main_v1 (by decide)).trans (V3_v1 m d)
theorem V4_arg (d : Dev nD) (r : Ref sig .tc) (h0 : r ≠ main_cst) (h1 : r ≠ main_v0) (h2 : r ≠ main_v1) (h3 : r ≠ main_v2) :
    V4 m d (Proc.devRef .tc r) = m ((SparseCore.T d).loc r) := (V4_ne m d r h3).trans ((V3_ne m d r h2).trans (V2_ne m d r h0 h1))
theorem V5_v3 (d : Dev nD) : V5 m d (Proc.devRef .tc main_v3) = out m d := Function.update_self _ _ _
theorem V5_ne (d : Dev nD) (r : Ref sig .tc) (h : r ≠ main_v3) : V5 m d (Proc.devRef .tc r) = V4 m d (Proc.devRef .tc r) :=
  Function.update_of_ne (devRef_ne h) _ _

/-- The buffers before the SparseCore call, and after it. -/
theorem uc_V2 (d : Dev nD) : (held (SparseCore.T d) ucRefs ((opBc (F := F)).result ((opCst (F := F)).result (V0 m d))) : sProp 𝕄)
    = iprop((sLoc d ↦{fullShare} m (sLoc d)) ∗ (rLoc d ↦{fullShare} m (rLoc d)) ∗ (zLoc d ↦{fullShare} zeros (F := F)) ∗ (aLoc d ↦{fullShare} m (aLoc d)) ∗ rest d (V2 m d)) := by
  show held (SparseCore.T d) ucRefs (V2 m d) = _
  rw [← unscopedBufs_held, unscopedBufs_eq, V2_v0, V2_ne m d main_arg1 (by decide) (by decide), V2_ne m d main_arg2 (by decide) (by decide),
    V2_ne m d main_v1 (by decide) (by decide)]

theorem uc_V3 (d : Dev nD) : (held (SparseCore.T d) ucRefs (V3 m d) : sProp 𝕄)
    = iprop((sLoc d ↦{fullShare} m (sLoc d)) ∗ (rLoc d ↦{fullShare} m (rLoc d)) ∗ (zLoc d ↦{fullShare} zeros (F := F))
        ∗ (aLoc d ↦{fullShare} counts (m (sLoc d)) (m (rLoc d))) ∗ rest d (V2 m d)) := by
  rw [← unscopedBufs_held, unscopedBufs_eq, V3_v1, V3_ne m d main_v0 (by decide), V3_ne m d main_arg1 (by decide), V3_ne m d main_arg2 (by decide),
    V2_v0, V2_ne m d main_arg1 (by decide) (by decide), V2_ne m d main_arg2 (by decide) (by decide)]
  unfold rest
  rw [V3_ne m d main_arg0 (by decide), V3_ne m d main_arg3 (by decide), V3_ne m d main_arg4 (by decide), V3_ne m d main_cst (by decide),
    V3_ne m d main_v2 (by decide), V3_ne m d main_v3 (by decide)]

/-! ## The readout call inside @main -/

abbrev adm : (p : Fin 1) → (pcfgs (F := F) p).Adm := fun q => (cfgs q).toPCfg_adm

abbrev Vc (c : Dev nD) (b : Ref sig .tc) : Buf (Elt F) ((c : Thread nD τ).loc b) := V4 m c (Proc.devRef .tc b)
abbrev Vp (c : Dev nD) (b : Ref sig .tc) : Buf (Elt F) ((c : Thread nD τ).loc b) := V5 m c (Proc.devRef .tc b)

theorem Vp_out (c : Dev nD) : Vp m c main_v3 = readout (Vc m c main_v1) (Vc m c main_arg3) (Vc m c main_v2) := by
  refine (V5_v3 m c).trans ?_
  unfold out Vc
  rw [V4_v1, V4_v2, V4_arg m c main_arg3 (by decide) (by decide) (by decide) (by decide)]

theorem Vp_ne (c : Dev nD) (b : Ref sig .tc) (h : b ≠ main_v3) : Vp m c b = Vc m c b := V5_ne m c b h

def seg : Pipeline.RegionSeg (pcfgs (F := F)) adm (R.pdats (Vc m) adm) none defs₀ 𝒱₀ (K (F := F)).L (K (F := F)).lev 0 :=
  R.reg (Vc m) (adm (F := F)) (Vp m) (Vp_out m) (Vp_ne m)

theorem seg_pre (c : Dev nD) : (seg m).pre c
    = iprop(unscopedBufs c (Vc m c) ∗ ∃ W, ⌜(K (F := F)).WBelow (SparseCore.T c) W 8⌝ ∗ owes (c : Thread nD τ) (0 : CellTallies nD τ sig (HIx 1)) W) := rfl
theorem seg_pre' (d : Dev nD) : (seg m).pre d
    = iprop(unscopedBufs d (fun b => (opRs (F := F)).result (V3 m d) (Proc.devRef .tc b))
        ∗ ∃ W, ⌜(K (F := F)).WBelow (SparseCore.T d) W 8⌝ ∗ owes (SparseCore.T d) (0 : CellTallies nD τ sig (HIx 1)) W) := rfl
theorem seg_post (c : Dev nD) : (seg m).post c
    = iprop(unscopedBufs c (Vp m c) ∗ ∃ W, ⌜(K (F := F)).WBelow (SparseCore.T c) W 8⌝ ∗ owes (c : Thread nD τ) (0 : CellTallies nD τ sig (HIx 1)) W) := rfl

abbrev pinned := Pipeline.pin (pcfgs (F := F)) adm

/-- The pipeline's ghost state. -/
def G (d : Dev nD) : sProp 𝕄 :=
  iprop(Pipeline.cellsGhost (pinned (F := F)) EP 0 d ∗ Pipeline.toksInit (pinned (F := F)) EP 0 d)

theorem pinned_inj : Function.Injective (Pipeline.cellOf (nD := nD) (τ := τ) (Pipeline.pin (pcfgs (F := F)) adm)) :=
  launch1.toP.cellOf_inj adm

theorem region_wp [∀ e, Nonempty (Elt F e)] (d : Dev nD) (Q : PUnit → sProp 𝕄) :
    iprop((iprop(boundary (d : Thread nD τ) ∗ (seg m).post d) -∗ wp frame (wpE (D (F := F)) 𝒱 (d : Thread nD τ) none) Set.univ (.ret ⟨⟩) Q)
        ∗ boundary (d : Thread nD τ) ∗ (seg m).pre d ∗ levAts (K (F := F)).L (K (F := F)).lev
        ∗ Pipeline.cellsGhost (pinned (F := F)) EP 0 d ∗ Pipeline.toksInit (pinned (F := F)) EP 0 d)
      ⊢ wp frame (wpE (D (F := F)) 𝒱 (d : Thread nD τ) none) Set.univ (.op (.customCall (Pipeline.entry 0) ()) fun _ => .ret ⟨⟩) Q :=
  by
  have h := fun k => Pipeline.RegionSeg.wp (Q := Q) (pcfgs (F := F)) adm (R.pdats (Vc m) adm) none pinned_inj EP defs₀ 𝒱₀ (K (F := F)).L (K (F := F)).lev (seg m) d none
     (fun u h => absurd h (Option.not_mem_none u)) k
  have h2 := h (fun _ => .ret ⟨⟩)
  refine BI.Entails.trans ?_ (BI.Entails.trans h2 ?_)
  · refine BI.sep_mono ?_ ?_
    · exact BI.Entails.refl _
    refine BI.sep_mono (BI.Entails.refl _) ?_
    refine BI.sep_mono (BI.Entails.refl _) ?_
    refine BI.sep_mono (BI.Entails.refl _) ?_
    exact BI.Entails.refl _
  · exact BI.Entails.refl _

theorem region_step [∀ e, Nonempty (Elt F e)] (d : Dev nD) (Q : PUnit → sProp 𝕄) :
    iprop((iprop(boundary (SparseCore.T d) ∗ (seg m).post d) -∗ Q ⟨⟩) ∗ boundary (SparseCore.T d) ∗ (seg m).pre d ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  have h1 := region_wp m d Q
  have h2 := (K (F := F)).wp_liftProg (D (F := F)) 𝒱 (SparseCore.T d) Set.univ none (.op (.customCall (Pipeline.entry 0) ()) fun _ => .ret ⟨⟩) Q
  refine BI.Entails.trans (BI.sep_mono ?_ (BI.Entails.refl _)) (h1.trans h2)
  show iprop((boundary (SparseCore.T d) ∗ (seg m).post d) -∗ Q ⟨⟩)
    ⊢ iprop((boundary (SparseCore.T d) ∗ (seg m).post d) -∗ wp frame (wpE (D (F := F)) 𝒱 (SparseCore.T d) none) Set.univ (.ret ⟨⟩) Q)
  iintro Hk H
  rw [wp_ret]; imodintro
  iapply Hk; iexact H

theorem Otc_one (d : Dev nD) : (K (F := F)).Otc d 1 = (0 : CellTallies nD τ sig (HIx 1)) := by
  unfold SparseCore.Cfg.Otc
  refine Finset.sum_eq_zero fun q _ => ?_
  rw [if_neg]
  have := q.isLt
  omega

/-- What the TensorCore holds of the handshakes after the call, beside what it owes. -/
def hsDone (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄)
    = iprop((∃ W, ⌜(K (F := F)).WBelow (SparseCore.T d) W 8⌝ ∗ owes (SparseCore.T d) (0 : CellTallies nD τ sig (HIx 1)) W) ∗ hsDone d) := by
  unfold SparseCore.Cfg.tcSt hsDone
  rw [Otc_one]
  rfl

/-- What @main leaves: every unscoped buffer at its last contents. -/
def FIN (d : Dev nD) : sProp 𝕄 := unscopedBufs d (fun b => V5 m d b)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscopedBufs_held d (V0 m d)]
  simp only [main, wp_bind, wp_pure]
  iintro ⟨#Hctx, Hst, ⟨Hb, Hheld, Hts, -⟩, HG⟩
  -- the zeros
  iapply (wp_hlo_within 𝒱 (SparseCore.T d) none Set.univ (op := opCst) (S := ucRefs) hCst (V := V0 m d)) $$ [Hb Hheld]
  · isplitl [Hb] <;> iassumption
  iintro ⟨Hb, Hheld⟩
  rw [wp_ret]; imodintro
  iapply (wp_hlo_within 𝒱 (SparseCore.T d) none Set.univ (op := opBc) (S := ucRefs) hBc (V := (opCst (F := F)).result (V0 m d))) $$ [Hb Hheld]
  · isplitl [Hb] <;> iassumption
  iintro ⟨Hb, Hheld⟩
  rw [wp_ret]; imodintro
  -- the SparseCore call
  ihave Hh := (Entails.of_eq (uc_V2 (F := F) m d)) $$ Hheld
  icases Hh with ⟨Hs, Hr, Hz, Ha, Hrest⟩
  ihave Hg := (give m d) $$ [Hs Hr Hz Ha]
  · isplitl [Hs]; · iexact Hs
    isplitl [Hr]; · iexact Hr
    isplitl [Hz] <;> iassumption
  icases Hg with ⟨Hkept, Hgive⟩
  iapply ((K (F := F)).wp_run (D (F := F)) 𝒱 (EH := EH) (P := P m) κ d 0) $$ [Hst Hgive Hkept Hrest Hb Hts HG]
  isplitr; · iexact Hctx
  isplitl [Hst]; · iexact Hst
  isplitl [Hgive]; · iexact Hgive
  iintro ⟨Hst, Hdn⟩
  ihave Hh := (take m d) $$ [Hkept Hdn]
  · isplitl [Hkept] <;> iassumption
  icases Hh with ⟨Hs, Hr, Hz, Ha⟩
  ihave Hheld := (Entails.of_eq (uc_V3 (F := F) m d).symm) $$ [Hs Hr Hz Ha Hrest]
  · isplitl [Hs]; · iexact Hs
    isplitl [Hr]; · iexact Hr
    isplitl [Hz]; · iexact Hz
    isplitl [Ha] <;> iassumption
  -- the bias as a row
  iapply (wp_hlo_within 𝒱 (SparseCore.T d) none Set.univ (op := opRs) (S := ucRefs) hRs (V := V3 m d)) $$ [Hb Hheld]
  · isplitl [Hb] <;> iassumption
  iintro ⟨Hb, Hheld⟩
  rw [wp_ret]; imodintro
  -- the readout call
  ihave Hub := (Entails.of_eq (unscopedBufs_held (F := F) d ((opRs (F := F)).result (V3 m d))).symm) $$ Hheld
  ihave Hst := (Entails.of_eq ((show ((K (F := F)).tcSt EH d ((0 : Fin 1).val + 1) : sProp 𝕄) = (K (F := F)).tcSt EH d 1 from rfl).trans (tcSt_one (F := F) d))) $$ Hst
  icases Hst with ⟨HO, Hhs⟩
  iapply (region_step m d _) $$ [Hub HO Hb HG Hhs Hts]
  isplitl [Hhs Hts]
  · iintro ⟨Hb, Hpost⟩
    ihave Hpost := (Entails.of_eq (seg_post m d)) $$ Hpost
    icases Hpost with ⟨Hub, HO⟩
    imodintro
    isplitl [HO Hhs]
    · iapply (Entails.of_eq (tcSt_one (F := F) d).symm)
      isplitl [HO] <;> iassumption
    isplitl [Hub]; · unfold FIN; iexact Hub
    isplitl [Hb] <;> iassumption
  isplitl [Hb]; · iexact Hb
  isplitl [Hub HO]
  · iapply (Entails.of_eq (seg_pre' m d).symm)
    isplitl [Hub] <;> iassumption
  isplitr; · iapply ((K (F := F)).ctx_levAts κ); iexact Hctx
  iexact HG

/-! ## The end of the run -/

/-- What is read of device `d`'s final state. -/
def fq (d : Dev nD) (s' : Phys nD τ sig (Elt F)) : Prop :=
  s'.mem.mem ((SparseCore.T d).loc main_v3) = out m d
    ∧ s'.mem.mem ((SparseCore.T d).loc main_arg0) = m ((SparseCore.T d).loc main_arg0) ∧ s'.mem.mem (sLoc d) = m (sLoc d) ∧ s'.mem.mem (rLoc d) = m (rLoc d)
    ∧ s'.mem.mem ((SparseCore.T d).loc main_arg3) = m ((SparseCore.T d).loc main_arg3) ∧ s'.mem.mem ((SparseCore.T d).loc main_arg4) = m ((SparseCore.T d).loc main_arg4)

theorem V5_arg (d : Dev nD) (r : Ref sig .tc) (h0 : r ≠ main_cst) (h1 : r ≠ main_v0) (h2 : r ≠ main_v1) (h3 : r ≠ main_v2) (h4 : r ≠ main_v3) :
    V5 m d (Proc.devRef .tc r) = m ((SparseCore.T d).loc r) := (V5_ne m d r h4).trans (V4_arg m d r h0 h1 h2 h3)

theorem agree_at {ℓ : Loc nD τ sig} {f : Buf (Elt F) ℓ} (s' : Phys nD τ sig (Elt F)) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  rw [unscopedBufs_eq, V5_arg m d main_arg1 (by decide) (by decide) (by decide) (by decide) (by decide),
    V5_arg m d main_arg2 (by decide) (by decide) (by decide) (by decide) (by decide)]
  unfold rest
  rw [V5_v3, V5_arg m d main_arg0 (by decide) (by decide) (by decide) (by decide) (by decide),
    V5_arg m d main_arg3 (by decide) (by decide) (by decide) (by decide) (by decide),
    V5_arg m d main_arg4 (by decide) (by decide) (by decide) (by decide) (by decide)]
  iintro ⟨⟨H1, H2, -, -, H0, H3, H4, -, -, Hv⟩, HSI⟩
  ihave H := (agree_at s') $$ [HSI H0]
  · isplitl [HSI] <;> iassumption
  icases H with ⟨%h0, HSI⟩
  ihave H := (agree_at s') $$ [HSI H1]
  · isplitl [HSI] <;> iassumption
  icases H with ⟨%h1, HSI⟩
  ihave H := (agree_at s') $$ [HSI H2]
  · isplitl [HSI] <;> iassumption
  icases H with ⟨%h2, HSI⟩
  ihave H := (agree_at s') $$ [HSI H3]
  · isplitl [HSI] <;> iassumption
  icases H with ⟨%h3, HSI⟩
  ihave H := (agree_at s') $$ [HSI H4]
  · isplitl [HSI] <;> iassumption
  icases H with ⟨%h4, HSI⟩
  ihave H := (agree_at s') $$ [HSI Hv]
  · isplitl [HSI] <;> iassumption
  icases H with ⟨%hv, HSI⟩
  ipureintro; exact ⟨hv, h0, h1, h2, h3, h4⟩

/-! ## The launch element -/

def u₀ : UU :=
  (initOf (K (F := F)).hsCells (K (F := F)).hsToks, (initOf (Pipeline.cells (pinned (F := F)) pinned_inj) (Pipeline.launchToks (pinned (F := F)) pinned_inj), 1))

theorem G_deal : iprop((bigSep Finset.univ fun c : Dev nD => bigSep Finset.univ fun p : Fin 1 => Pipeline.cellsGhost (pinned (F := F)) EP p c)
      ∗ (bigSep Finset.univ fun c : Dev nD => bigSep Finset.univ fun p : Fin 1 => (Pipeline.toksInit (pinned (F := F)) EP p c : sProp 𝕄)))
    ⊢ bigSep Finset.univ fun d : Dev nD => G (F := F) d := by
  rw [← bigSep_sep']
  refine bigSep_mono fun d _ => ?_
  rw [bigSep_univ_of_subsingleton (0 : Fin 1), bigSep_univ_of_subsingleton (0 : Fin 1)]
  exact BI.Entails.refl _

theorem kit_deal : (BI.own ((Emb.inl.trans embR : Emb UP 𝕄) (initOf (Pipeline.cells (pinned (F := F)) pinned_inj) (Pipeline.launchToks (pinned (F := F)) pinned_inj))) : sProp 𝕄)
    ⊢ |==> iprop((bigSep Finset.univ fun c : Dev nD => bigSep Finset.univ fun p : Fin 1 => Pipeline.cellsGhost (pinned (F := F)) EP p c)
      ∗ (bigSep Finset.univ fun c : Dev nD => bigSep Finset.univ fun p : Fin 1 => (Pipeline.toksInit (pinned (F := F)) EP p c : sProp 𝕄))) :=
  Pipeline.fund_ghost (pinned (F := F)) EP pinned_inj

theorem x_deal : (iprop(emp) : sProp 𝕄) ⊢ bigSep Finset.univ fun thr : Thread nD τ => bigSep Finset.univ fun q : Fin 1 => (P m).x q thr := by
  refine Entails.of_eq (Eq.symm ?_)
  rw [show (fun thr : Thread nD τ => bigSep Finset.univ fun q : Fin 1 => ((P m).x q thr : sProp 𝕄)) = fun _ => iprop(emp) from
    funext fun thr => bigSep_emp_const _]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HK⟩
  ihave H := (own_pair_emb embR _ _) $$ HK
  icases H with ⟨HK, -⟩
  imod (kit_deal (F := F)) $$ HK with Hg
  imodintro
  isplitl [HH]; · iexact HH
  isplitl [Hg]; · iapply G_deal; iexact Hg
  iapply (x_deal m); iempintro

/-! ## The program's run -/

def QC : PUnit × MemSt nD τ sig (Elt F) → Prop := fun r =>
  (∀ d : Dev nD, r.2.mem ((SparseCore.T d).loc main_v3) = out m d
    ∧ r.2.mem ((SparseCore.T d).loc main_arg0) = m ((SparseCore.T d).loc main_arg0) ∧ r.2.mem (sLoc d) = m (sLoc d) ∧ r.2.mem (rLoc d) = m (rLoc d)
    ∧ r.2.mem ((SparseCore.T d).loc main_arg3) = m ((SparseCore.T d).loc main_arg3) ∧ r.2.mem ((SparseCore.T d).loc main_arg4) = m ((SparseCore.T d).loc main_arg4))
  ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Frames.lean ====
/-
  What the precondition says of the edges, and the frames of the three programs.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.WordCmp

@[expose] public section

noncomputable section

namespace Cert.Proof

open Idealize.ShloMosaic Idealize.SL.Sem

/-- A word between 0 and 1023 as a signed number is that natural. -/
theorem lt_of_bits (v : BitVec 32) (h0 : IntOp.cmpi .sge v 0#32 = 1#1) (h1 : IntOp.cmpi .slt v 1024#32 = 1#1) : v.toNat < 1024 := by
  have h : IntOp.andi (IntOp.cmpi .sge v 0#32) (IntOp.cmpi .slt v 1024#32) = 1#1 := by
    rw [h0, h1]; decide
  revert h; word_cmp

theorem and_one (x y : BitVec 1) (h : IntOp.andi x y = 1#1) : x = 1#1 ∧ y = 1#1 := by
  revert h; revert x y; decide

/-- The precondition: every sender and every receiver is below 1024. -/
theorem edges_of_pre {F : FTy → Type} [FloatOps F] (x : FVec F Pre_in_range.S1024x128 .f32) (s r : IVec Pre_in_range.S8192 32)
    (w : FVec F Pre_in_range.S8x128 .f32) (b : FVec F Pre_in_range.S128 .f32) (h : Pre_in_range.fn x s r w b = fun _ => 1#1) :
    (∀ i, (s i).toNat < 1024) ∧ ∀ i, (r i).toNat < 1024 := by
  have e := congrFun h ValueIdx.ix0
  dsimp only [Pre_in_range.fn] at e
  obtain ⟨e, h3⟩ := and_one _ _ e
  obtain ⟨e, h2⟩ := and_one _ _ e
  obtain ⟨h0, h1⟩ := and_one _ _ e
  exact ⟨fun i => lt_of_bits _ (Host.reduce_andi_all _ _ _ _ _ h0 i) (Host.reduce_andi_all _ _ _ _ _ h1 i),
    fun i => lt_of_bits _ (Host.reduce_andi_all _ _ _ _ _ h2 i) (Host.reduce_andi_all _ _ _ _ _ h3 i)⟩

theorem preOK_kernel (m : (ℓ : Loc KernelIdeal.nD KernelIdeal.τ KernelIdeal.sig) → Buf (Elt Bits) ℓ) (h : Pre_Kernel m) : Run.PreOK (F := Bits) m :=
  fun d => (edges_of_pre _ _ _ _ _ (h d)).1

theorem preOK_kernelIdeal (m : (ℓ : Loc KernelIdeal.nD KernelIdeal.τ KernelIdeal.sig) → Buf (Elt Ideal) ℓ) (h : Pre_KernelIdeal m) : Run.PreOK (F := Ideal) m :=
  fun d => (edges_of_pre _ _ _ _ _ (h d)).1

/-- What the frame says of a run's end, for any float values. -/
def Kept {F : FTy → Type} (m : (ℓ : Loc KernelIdeal.nD KernelIdeal.τ KernelIdeal.sig) → Buf (Elt F) ℓ)
    (r : PUnit × MemSt KernelIdeal.nD KernelIdeal.τ KernelIdeal.sig (Elt F)) : Prop :=
  (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
    ∧ r.2.sem = fun _ => 0

theorem run_kept {F : FTy → Type} [FloatOps F] [∀ e, Nonempty (Elt F e)] (m : (ℓ : Loc KernelIdeal.nD KernelIdeal.τ KernelIdeal.sig) → Buf (Elt F) ℓ)
    (ρ : Dev KernelIdeal.nD → PrngReg) (h : Run.PreOK m) :
    θ_run (KernelIdeal.defs (F := F)) (KernelIdeal.threads (F := F)) ⟨m, fun _ => 0, ρ⟩ (Kept m) :=
  (θ_run KernelIdeal.defs _ _).mono (fun _ h => ⟨fun c => (h.1 c).2, h.2⟩) (Run.run_main m ρ h)

/-- The two programs' body tables are one: they agree label by label. -/
theorem defs₀_eq : Kernel.defs₀ (F := Bits) = KernelIdeal.defs₀ (F := Bits) := by
  funext p ℓ a
  match p, ℓ, a with
  | .tc, ⟨0, _⟩, _ => rfl
  | .tc, ⟨1, _⟩, (_, _) => rfl
  | .scScalar _, ⟨0, _⟩, _ => rfl
  | .scScalar _, ⟨1, _⟩, _ => rfl
  | .scVector _ _, ⟨0, _⟩, _ => rfl
  | .scVector _ _, ⟨1, _⟩, _ => rfl

theorem defs_eq : Kernel.defs (F := Bits) = KernelIdeal.defs (F := Bits) :=
  congrArg (fun d => (KernelIdeal.sc (F := Bits)).defs (Pipeline.defs KernelIdeal.pcfgs d)) defs₀_eq

theorem frame_kernel : Cert.quiescent_Kernel := by
  intro m ρ h
  rw [defs_eq]
  exact run_kept (F := Bits) m ρ (preOK_kernel m h)

theorem frame_kernelIdeal : Cert.quiescent_KernelIdeal := fun m ρ h =>
  run_kept (F := Ideal) m ρ (preOK_kernelIdeal m h)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range : Cert.quiescent_ReferenceIdeal_pre_in_range := fun m ρ _ => frame_reference m ρ trivial

end Cert.Proof

end
-- ==== Proof.Walk.lean ====
/-
  The mathematics of the random walk, over the reals. From the edges (`S e` the sender, `R e` the receiver of edge `e`):
  the transition matrix, the regrouping by which one message-passing step over the edges is a product with that matrix,
  and the diagonals of its powers as sums of products.
-/
module

public import Mathlib.Data.Matrix.Mul
public import Mathlib.Data.EReal.Inv
public import Mathlib.Algebra.BigOperators.Fin
public import Mathlib.Tactic.Ring
public import Mathlib.Algebra.Field.Basic
public import Mathlib.Algebra.BigOperators.Ring.Finset
public import Idealize.ShloMosaic.PureOps.Ideal

@[expose] public section

noncomputable section

namespace Cert.Proof.Walk

open Finset

variable {N E : ℕ} (S R : Fin E → Fin N)

/-- The number of edges from `j` to `i`. -/
def edges (i j : Fin N) : ℕ := #{e | R e = i ∧ S e = j}

/-- A node's number of outgoing edges, at least one. -/
def degree (j : Fin N) : ℝ := max (#{e | S e = j} : ℝ) 1

/-- The walk's transition matrix: at `(i, j)`, the share of `j`'s edges that lead to `i`. -/
def step : Matrix (Fin N) (Fin N) ℝ := fun i j => edges S R i j * (1 / degree S j)

theorem degree_pos (j : Fin N) : 0 < degree S j := lt_of_lt_of_le one_pos (le_max_right _ _)

/-- A node's outgoing edges, counted by where they lead. -/
theorem sum_edges (j : Fin N) : ∑ i, edges S R i j = #{e | S e = j} := by
  unfold edges
  rw [card_eq_sum_card_fiberwise (f := R) (t := univ) (fun _ _ => mem_coe.2 (mem_univ _))]
  refine sum_congr rfl fun i _ => ?_
  congr 1
  ext e
  simp [and_comm]

/-- One message-passing step, over the edges, is the product with the transition matrix. -/
theorem step_mul (P : Matrix (Fin N) (Fin N) ℝ) (i j : Fin N) :
    ∑ e with R e = i, P (S e) j / degree S (S e) = (step S R * P) i j := by
  rw [Matrix.mul_apply, ← sum_fiberwise (s := univ.filter fun e => R e = i) (g := S)]
  refine sum_congr rfl fun k _ => ?_
  rw [filter_filter]
  have h : ∀ e ∈ univ.filter (fun e => R e = i ∧ S e = k), P (S e) j / degree S (S e) = P k j / degree S k := fun e he => by
    rw [(mem_filter.1 he).2.2]
  rw [sum_congr rfl h, sum_const, nsmul_eq_mul]
  unfold step edges
  ring

/-- The diagonal of a power, from two smaller powers. -/
theorem pow_diag (M : Matrix (Fin N) (Fin N) ℝ) (a b : ℕ) (i : Fin N) : (M ^ (a + b)) i i = ∑ j, (M ^ a) i j * (M ^ b) j i := by
  rw [pow_add, Matrix.mul_apply]

/-- The diagonal of a matrix, as a row sum against the identity. -/
theorem diag_sum (M : Matrix (Fin N) (Fin N) ℝ) (i : Fin N) : ∑ j, M i j * (if i = j then 1 else 0) = M i i := by
  simp

/-- A sum of real numbers, among the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s h ih => rw [sum_insert h, sum_insert h, EReal.coe_add, ih]

end Cert.Proof.Walk

end
-- ==== Proof.Nodes.lean ====
/-
  The nodes that the edges name, and the few facts by which computations on the extended reals stay within the reals.
-/
module

public import proofs.«01_k».proof.Proof.Walk
public import Idealize.ShloMosaic.Lib.Routing.Shapes
public import Idealize.ShloMosaic.Lib.WordCmp
public import Idealize.ShloMosaic.Lib.IdealHost

@[expose] public section

noncomputable section

namespace Cert.Proof.Walk

open Idealize.ShloMosaic Idealize.ShloMosaic.ValueIdx Finset

/-- The node that entry `e` of an edge list names. -/
def node (f : (⟨1, ![8192]⟩ : Shape).Idx → BitVec 32) (h : ∀ i, (f i).toNat < 1024) (e : Fin 8192) : Fin 1024 := ⟨(f (ix1 e)).toNat, h _⟩

theorem word_toInt {w : BitVec 32} (h : w.toNat < 1024) : w.toInt = (w.toNat : ℤ) :=
  WordCmp.toInt_eq_toNat_of_lt_half (show w.toNat < 2 ^ 31 by omega)

/-- An edge's word, read signed, is `r` when the edge names the node `r`. -/
theorem word_node (f : (⟨1, ![8192]⟩ : Shape).Idx → BitVec 32) (h : ∀ i, (f i).toNat < 1024) (e : Fin 8192) (r : Fin 1024) :
    (f (ix1 e)).toInt = (r.val : ℤ) ↔ node f h e = r := by
  rw [word_toInt (h _), Fin.ext_iff]
  exact Nat.cast_inj

theorem word_ofNat (f : (⟨1, ![8192]⟩ : Shape).Idx → BitVec 32) (h : ∀ i, (f i).toNat < 1024) (e : Fin 8192) :
    f (ix1 e) = BitVec.ofNat 32 (node f h e).val := by
  apply BitVec.eq_of_toNat_eq
  rw [BitVec.toNat_ofNat]
  have := h (ix1 e)
  exact (Nat.mod_eq_of_lt (show (f (ix1 e)).toNat < 2 ^ 32 by omega)).symm

/-- Division of real numbers, among the extended reals. -/
theorem coe_div {x y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- Ones added up: their number. -/
theorem sum_ones {ι : Type} (s : Finset ι) : ∑ _x ∈ s, (1 : EReal) = ((#s : ℝ) : EReal) := by
  rw [← EReal.coe_one, ← coe_sum, sum_const, nsmul_eq_mul, mul_one]

theorem coe_max (x y : ℝ) : max (x : EReal) (y : EReal) = ((max x y : ℝ) : EReal) :=
  (EReal.coe_strictMono.monotone.map_max).symm

end Cert.Proof.Walk

end
-- ==== Proof.CountValue.lean ====
/-
  The two SparseCores' partial counts at one element: together, the number of edges from the column's node to the row's.
-/
module

public import proofs.«01_k».proof.Proof.Nodes
public import proofs.«01_k».proof.Proof.Readout
public import Idealize.ShloMosaic.Lib.IdealHost

@[expose] public section

noncomputable section

namespace Cert.Proof.Ker

open Cert.KernelIdeal Cert.KernelIdeal.Gen
open Idealize.ShloMosaic
open Idealize.ShloMosaic.ValueIdx
open Finset Cert.Proof.Walk

/-- Whether edge `n` goes from node `j` to node `i`, as a number. -/
def hit (s r : ℕ → BitVec 32) (i j n : ℕ) : ℕ := if (r n).toNat = i ∧ (s n).toNat = j then 1 else 0

theorem hitCount_at (lo : ℕ) (s r : ℕ → BitVec 32) (n : ℕ) (j : S64x1024.Idx) :
    Count.hitCount (F := Ideal) Run.zeros lo s r n j = (((∑ k ∈ range n, hit s r (lo + (j 0).val) (j 1).val k : ℕ) : ℝ) : EReal) := by
  induction n with
  | zero =>
    rw [range_zero, sum_empty, Nat.cast_zero, EReal.coe_zero]
    exact Ideal.ofBits_zero_f32
  | succ n ih =>
    rw [sum_range_succ, Nat.cast_add, EReal.coe_add, ← ih]
    unfold hit
    show (if _ then _ else _) = _
    split
    · rw [Nat.cast_one, EReal.coe_one]
      exact congrArg (fun a : EReal => Count.hitCount (F := Ideal) Run.zeros lo s r n j + a) Ideal.ofBits_one_f32
    · rw [Nat.cast_zero, EReal.coe_zero, add_zero]

theorem tile_at (s r : S8192.Idx → BitVec 32) (c : ℕ) (i j : Fin 1024) (y : S64x1024.Idx) (h0 : (y 0).val = i.val % 64) (h1 : (y 1).val = j.val) :
    Run.tileCount (F := Ideal) s r c (i.val / 64) y = (((∑ k ∈ range 4096, hit (Run.edgeAt s c) (Run.edgeAt r c) i.val j.val k : ℕ) : ℝ) : EReal) := by
  refine (hitCount_at _ _ _ _ _).trans ?_
  rw [h0, h1, Nat.div_add_mod]

theorem edgeAt_eq (f : S8192.Idx → BitVec 32) (c n : ℕ) (h : 4096 * c + n < 8192) : Run.edgeAt f c n = f (ix1 (⟨4096 * c + n, h⟩ : Fin 8192)) := by
  unfold Run.edgeAt
  refine congrArg f (funext fun a => ?_)
  match a with
  | ⟨0, _⟩ => exact Fin.ext (Nat.mod_eq_of_lt h)

theorem counts_at (s r : S8192.Idx → BitVec 32) (hs : ∀ i, (s i).toNat < 1024) (hr : ∀ i, (r i).toNat < 1024) (i j : Fin 1024) :
    Run.slab0 (F := Ideal) (Run.counts s r) (ix3 (0 : Fin 1) i j) + Run.slab1 (F := Ideal) (Run.counts s r) (ix3 (0 : Fin 1) i j)
      = ((edges (node s hs) (node r hr) i j : ℝ) : EReal) := by
  have e0 : Run.slab0 (F := Ideal) (Run.counts s r) (ix3 (0 : Fin 1) i j)
      = (((∑ k ∈ range 4096, hit (Run.edgeAt s 0) (Run.edgeAt r 0) i.val j.val k : ℕ) : ℝ) : EReal) := by
    refine Eq.trans ?_ (tile_at s r 0 i j (fun | 0 => (⟨i.val % 64, Nat.mod_lt _ (by decide)⟩ : Fin 64) | 1 => j) rfl rfl)
    rfl
  have e1 : Run.slab1 (F := Ideal) (Run.counts s r) (ix3 (0 : Fin 1) i j)
      = (((∑ k ∈ range 4096, hit (Run.edgeAt s 1) (Run.edgeAt r 1) i.val j.val k : ℕ) : ℝ) : EReal) := by
    refine Eq.trans ?_ (tile_at s r 1 i j (fun | 0 => (⟨i.val % 64, Nat.mod_lt _ (by decide)⟩ : Fin 64) | 1 => j) rfl rfl)
    rfl
  rw [e0, e1, ← EReal.coe_add, ← Nat.cast_add]
  refine congrArg (fun n : ℕ => ((n : ℝ) : EReal)) ?_
  let g : ℕ → ℕ := hit (Run.edgeAt s 0) (Run.edgeAt r 0) i.val j.val
  have hg : ∀ k ∈ range 4096, hit (Run.edgeAt s 1) (Run.edgeAt r 1) i.val j.val k = g (4096 + k) := fun k hk => by
    have hk := mem_range.1 hk
    show hit _ _ _ _ _ = hit _ _ _ _ _
    unfold hit
    rw [edgeAt_eq s 1 k (by omega), edgeAt_eq r 1 k (by omega), edgeAt_eq s 0 (4096 + k) (by omega), edgeAt_eq r 0 (4096 + k) (by omega)]
    simp only [mul_one, mul_zero, zero_add]
  rw [sum_congr rfl hg, ← sum_range_add g 4096 4096, sum_range]
  unfold edges
  rw [card_filter]
  refine sum_congr rfl fun e _ => ?_
  show hit _ _ _ _ _ = _
  have he := e.isLt
  unfold hit
  rw [edgeAt_eq s 0 e.val (by omega), edgeAt_eq r 0 e.val (by omega)]
  simp only [mul_zero, zero_add, Fin.eta, node, Fin.ext_iff]

end Cert.Proof.Ker

end
-- ==== Proof.KernelOps.lean ====
/-
  The readout kernel's matrix operations at one element: products, row sums, the transpose and the identity, over matrices
  of real numbers.
-/
module

public import proofs.«01_k».proof.Proof.Nodes
public import proofs.«01_k».proof.Proof.Gen.KernelIdeal.Skeleton
public import Idealize.ShloMosaic.Lib.Pointwise

@[expose] public section

noncomputable section

namespace Cert.Proof.Ker

open Cert.KernelIdeal Cert.KernelIdeal.Gen
open Idealize.ShloMosaic hiding ix1 ix2 ix3
open Idealize.ShloMosaic.ValueIdx
open Finset Cert.Proof.Walk

/-- A matrix whose elements are the real numbers `a`. -/
def Is (A : FVec Ideal S1024x1024 .f32) (a : Matrix (Fin 1024) (Fin 1024) ℝ) : Prop := ∀ i j : Fin 1024, A (ix2 i j) = ((a i j : ℝ) : EReal)

theorem product_at (A B : FVec Ideal S1024x1024 .f32) (i j : Fin 1024) :
    matmul dot_S1024x1024_S1024x1024_S1024x1024_1_0_0_1_n_n none A B (constant S1024x1024 .f32 0x00000000#32) (ix2 i j) = ∑ k : Fin 1024, A (ix2 i k) * B (ix2 k j) := by
  pointwise
  rfl

theorem rowSum_at (A : FVec Ideal S1024x1024 .f32) (i : Fin 1024) :
    multiReduction .add [1] S1024 A 0x00000000#32 reduces_S1024x1024_S1024_2 (.inl rfl) rfl (ix1 i) = ∑ k : Fin 1024, A (ix2 i k) := by
  pointwise
  rfl

theorem colSum_at (A : FVec Ideal S1024x1024 .f32) (j : Fin 1024) :
    multiReduction .add [0] S1024 A 0x00000000#32 reduces_S1024x1024_S1024 (.inl rfl) rfl (ix1 j) = ∑ k : Fin 1024, A (ix2 k j) := by
  pointwise
  rfl

theorem transpose_at (A : FVec Ideal S1024x1024 .f32) (i j : Fin 1024) :
    transpose S1024x1024 [1, 0] A transposes_S1024x1024_p1_0_S1024x1024 (ix2 i j) = A (ix2 j i) := by
  pointwise
  rfl

theorem ident_at (i j : Fin 1024) : k1_pay7 (F := Ideal) (ix2 i j) = ((if i = j then 1 else 0 : ℝ) : EReal) := by
  have h : IntOp.cmpi .eq (BitVec.ofNat 32 i.val) (BitVec.ofNat 32 j.val) = BitVec.ofBool (decide (i = j)) := by
    refine (WordCmp.cmpi_eq_eq _ _).trans (congrArg BitVec.ofBool (decide_eq_decide.2 ?_))
    rw [WordCmp.ofNat_eq_ofNat_iff (by omega) (by omega), Fin.ext_iff]
  unfold k1_pay7
  pointwise
  refine (congrArg (fun c : BitVec 1 => Scalar.select c (1 : EReal) 0) h).trans ?_
  by_cases e : i = j
  · rw [if_pos e, decide_eq_true e]; rfl
  · rw [if_neg e, decide_eq_false e]; rfl

theorem cols_at (x : FVec Ideal S1024 .f32) (i j : Fin 1024) :
    broadcastTo S1024x1024 (shapeCast S1x1024 x shapeCasts_S1024_S1x1024) broadcasts_S1x1024_S1024x1024 (ix2 i j) = x (ix1 j) := by
  pointwise
  rfl

theorem slab_at (x : FVec Ideal S1x1024x1024 .f32) (i j : Fin 1024) :
    shapeCast S1024x1024 x shapeCasts_S1x1024x1024_S1024x1024 (ix2 i j) = x (ix3 (0 : Fin 1) i j) := by
  pointwise
  rfl

theorem col_row_at (d : FVec Ideal S1024 .f32) (w : FVec Ideal S1x128 .f32) (i : Fin 1024) (j : Fin 128) :
    mulf (broadcastTo S1024x128 (shapeCast S1024x1 d shapeCasts_S1024_S1024x1) broadcasts_S1024x1_S1024x128)
      (broadcastTo S1024x128 (shapeCast S1x128 (shapeCast S128 w shapeCasts_S1x128_S128) shapeCasts_S128_S1x128) broadcasts_S1x128_S1024x128) (ix2 i j) = d (ix1 i) * w (ix2 (0 : Fin 1) j) := by
  pointwise
  rfl

theorem bias_at (w : FVec Ideal S1x128 .f32) (i : Fin 1024) (j : Fin 128) :
    broadcastTo S1024x128 (shapeCast S1x128 (shapeCast S1x128 w shapeCasts_S1x128_S1x128) shapeCasts_S1x128_S1x128) broadcasts_S1x128_S1024x128 (ix2 i j) = w (ix2 (0 : Fin 1) j) := by
  pointwise
  rfl

/-! Matrices of real numbers. -/

theorem Is.product {A B : FVec Ideal S1024x1024 .f32} {a b : Matrix (Fin 1024) (Fin 1024) ℝ} (hA : Is A a) (hB : Is B b) :
    Is (matmul dot_S1024x1024_S1024x1024_S1024x1024_1_0_0_1_n_n none A B (constant S1024x1024 .f32 0x00000000#32)) (a * b) := fun i j => by
  rw [product_at, Matrix.mul_apply, coe_sum]
  exact sum_congr rfl fun k _ => by rw [hA, hB, EReal.coe_mul]

theorem Is.diag {A : FVec Ideal S1024x1024 .f32} {a : Matrix (Fin 1024) (Fin 1024) ℝ} (hA : Is A a) (i : Fin 1024) :
    multiReduction .add [1] S1024 (mulf A k1_pay7) 0x00000000#32 reduces_S1024x1024_S1024_2 (.inl rfl) rfl (ix1 i) = ((a i i : ℝ) : EReal) := by
  rw [rowSum_at, ← diag_sum a i, coe_sum]
  exact sum_congr rfl fun k _ => (congrArg₂ (fun a b : EReal => a * b) (hA i k) (ident_at i k)).trans (EReal.coe_mul _ _).symm

theorem Is.diag_product {A B : FVec Ideal S1024x1024 .f32} {a b : Matrix (Fin 1024) (Fin 1024) ℝ} (hA : Is A a) (hB : Is B b) (i : Fin 1024) :
    multiReduction .add [1] S1024 (mulf A (transpose S1024x1024 [1, 0] B transposes_S1024x1024_p1_0_S1024x1024)) 0x00000000#32 reduces_S1024x1024_S1024_2 (.inl rfl) rfl (ix1 i)
      = ((∑ j, a i j * b j i : ℝ) : EReal) := by
  rw [rowSum_at, coe_sum]
  exact sum_congr rfl fun k _ => (congrArg₂ (fun a b : EReal => a * b) (hA i k) ((transpose_at B i k).trans (hB k i))).trans (EReal.coe_mul _ _).symm

/-! The transition matrix, its powers and their diagonals. -/

section Powers
variable {E : ℕ} (S R : Fin E → Fin 1024) (x y : FVec Ideal S1x1024x1024 .f32)
  (h : ∀ i j : Fin 1024, x (ix3 (0 : Fin 1) i j) + y (ix3 (0 : Fin 1) i j) = ((edges S R i j : ℝ) : EReal))
include h

theorem step_is : Is (k1_pay2 x y) (step S R) := fun i j => by
  have ha : ∀ i j : Fin 1024, addf (shapeCast S1024x1024 x shapeCasts_S1x1024x1024_S1024x1024) (shapeCast S1024x1024 y shapeCasts_S1x1024x1024_S1024x1024) (ix2 i j)
      = ((edges S R i j : ℝ) : EReal) := fun i j =>
    (congrArg₂ (fun a b : EReal => a + b) (slab_at x i j) (slab_at y i j)).trans (h i j)
  have hd : maximumf (multiReduction .add [0] S1024 (addf (shapeCast S1024x1024 x shapeCasts_S1x1024x1024_S1024x1024) (shapeCast S1024x1024 y shapeCasts_S1x1024x1024_S1024x1024)) 0x00000000#32 reduces_S1024x1024_S1024 (.inl rfl) rfl)
      (broadcast S1024 (Scalar.ofBits .f32 0x3F800000#32)) (ix1 j) = ((degree S j : ℝ) : EReal) := by
    refine (congrArg₂ (fun a b : EReal => max a b) (colSum_at _ j) Ideal.ofBits_one_f32).trans ?_
    rw [sum_congr rfl fun k _ => ha k j, ← coe_sum, ← EReal.coe_one, coe_max, ← Nat.cast_sum, sum_edges]
    rfl
  unfold k1_pay2 step
  refine (congrArg₂ (fun a b : EReal => a * b) (ha i j) ((cols_at _ i j).trans ((congrArg₂ Ideal.div Ideal.ofBits_one_f32 hd).trans (Eq.trans ?_ (coe_div (x := 1) (degree_pos S j).ne'))))).trans (EReal.coe_mul _ _).symm
  rw [EReal.coe_one]

theorem two_is : Is (k1_pay3 x y) (step S R ^ 2) := by
  rw [pow_two]; exact (step_is S R x y h).product (step_is S R x y h)

theorem three_is : Is (k1_pay4 x y) (step S R ^ 3) := by
  rw [pow_succ']; exact (step_is S R x y h).product (two_is S R x y h)

theorem four_is : Is (k1_pay5 x y) (step S R ^ 4) := by
  rw [show step S R ^ 4 = step S R ^ 2 * step S R ^ 2 from pow_add _ 2 2]; exact (two_is S R x y h).product (two_is S R x y h)

theorem d1 (i : Fin 1024) : k1_pay8 (F := Ideal) x y (ix1 i) = (((step S R ^ 1) i i : ℝ) : EReal) := by
  rw [pow_one]; exact (step_is S R x y h).diag i
theorem d2 (i : Fin 1024) : k1_pay9 (F := Ideal) x y (ix1 i) = (((step S R ^ 2) i i : ℝ) : EReal) := (two_is S R x y h).diag i
theorem d3 (i : Fin 1024) : k1_pay10 (F := Ideal) x y (ix1 i) = (((step S R ^ 3) i i : ℝ) : EReal) := (three_is S R x y h).diag i
theorem d4 (i : Fin 1024) : k1_pay11 (F := Ideal) x y (ix1 i) = (((step S R ^ 4) i i : ℝ) : EReal) := (four_is S R x y h).diag i
theorem d5 (i : Fin 1024) : k1_pay12 (F := Ideal) x y (ix1 i) = (((step S R ^ 5) i i : ℝ) : EReal) := by
  refine ((step_is S R x y h).diag_product (four_is S R x y h) i).trans ?_
  rw [pow_diag (step S R) 1 4 i, pow_one]
theorem d6 (i : Fin 1024) : k1_pay13 (F := Ideal) x y (ix1 i) = (((step S R ^ 6) i i : ℝ) : EReal) := by
  refine ((two_is S R x y h).diag_product (four_is S R x y h) i).trans ?_
  rw [pow_diag (step S R) 2 4 i]
theorem d7 (i : Fin 1024) : k1_pay14 (F := Ideal) x y (ix1 i) = (((step S R ^ 7) i i : ℝ) : EReal) := by
  refine ((three_is S R x y h).diag_product (four_is S R x y h) i).trans ?_
  rw [pow_diag (step S R) 3 4 i]
theorem d8 (i : Fin 1024) : k1_pay16 (F := Ideal) (k1_pay15 x y) (ix1 i) = (((step S R ^ 8) i i : ℝ) : EReal) := by
  refine ((four_is S R x y h).diag_product (four_is S R x y h) i).trans ?_
  rw [pow_diag (step S R) 4 4 i]

end Powers

/-! The weighted sum. -/

theorem first_at (d0 d1 d2 d3 d4 : FVec Ideal S1024 .f32) (b w0 w1 w2 w3 w4 : FVec Ideal S1x128 .f32) (i : Fin 1024) (j : Fin 128) :
    k1_pay17 d0 d1 d2 d3 d4 b w0 w1 w2 w3 w4 (ix2 i j) = b (ix2 (0 : Fin 1) j) + d0 (ix1 i) * w0 (ix2 (0 : Fin 1) j) + d1 (ix1 i) * w1 (ix2 (0 : Fin 1) j)
      + d2 (ix1 i) * w2 (ix2 (0 : Fin 1) j) + d3 (ix1 i) * w3 (ix2 (0 : Fin 1) j) + d4 (ix1 i) * w4 (ix2 (0 : Fin 1) j) :=
  (congrArg₂ (fun a b : EReal => a + b) (congrArg₂ (fun a b : EReal => a + b) (congrArg₂ (fun a b : EReal => a + b) (congrArg₂ (fun a b : EReal => a + b) (congrArg₂ (fun a b : EReal => a + b) (bias_at b i j) (col_row_at d0 w0 i j)) (col_row_at d1 w1 i j)) (col_row_at d2 w2 i j)) (col_row_at d3 w3 i j)) (col_row_at d4 w4 i j))

theorem last_at (d5 d6 d7 : FVec Ideal S1024 .f32) (acc : FVec Ideal S1024x128 .f32) (w5 w6 w7 : FVec Ideal S1x128 .f32) (i : Fin 1024) (j : Fin 128) :
    k1_pay1 d6 d7 acc (k1_pay18 d5) w5 w6 w7 (ix2 i j) = acc (ix2 i j) + d5 (ix1 i) * w5 (ix2 (0 : Fin 1) j) + d6 (ix1 i) * w6 (ix2 (0 : Fin 1) j)
      + d7 (ix1 i) * w7 (ix2 (0 : Fin 1) j) :=
  (congrArg₂ (fun a b : EReal => a + b) (congrArg₂ (fun a b : EReal => a + b) (congrArg₂ (fun a b : EReal => a + b) (Eq.refl (acc (ix2 i j))) (col_row_at d5 w5 i j)) (col_row_at d6 w6 i j)) (col_row_at d7 w7 i j))

end Cert.Proof.Ker

end
-- ==== Proof.RefOps.lean ====
/-
  The reference's gathers and scattered sums, read at one element. Each names what the index words select: a row of a
  table, an element of a vector, an element of the diagonal, and for a scattered sum the updates that land there.
-/
module

public import proofs.«01_k».proof.Defs
public import proofs.«01_k».proof.Proof.Gen.ReferenceIdeal
public import Idealize.ShloMosaic.Lib.Routing.Ops
public import Idealize.ShloMosaic.Lib.Routing.OpsPair
public import Idealize.ShloMosaic.Lib.Routing.OpsSet
public import Idealize.ShloMosaic.Lib.IdealHost

@[expose] public section

noncomputable section

namespace Cert.Proof.Ref

open Cert.ReferenceIdeal
open Idealize.ShloMosaic Idealize.ShloMosaic.ValueIdx Idealize.ShloMosaic.Routing
open Finset

variable [Cert.ReferenceIdeal.Facts₀]

theorem row_start (e : Fin 8192) (x : Fin 1024) (idx : IVec S8192x1 32) :
    scatter_S1024x1024_S8192x1_S8192x1024_1_0_0_1.start (ix2 e x) idx 0 = (idx (ix2 e (0 : Fin 1))).toInt := by
  have hm : (0 : Fin 2) ∈ scatter_S1024x1024_S8192x1_S8192x1024_1_0_0_1.scatterDimsToOperandDims := List.mem_singleton.2 rfl
  refine (dif_pos hm).trans (congrArg (fun t => (idx t).toInt) (funext fun b => ?_))
  match b with
  | ⟨0, _⟩ => rfl
  | ⟨1, _⟩ => rfl

theorem vec_start (e : Fin 8192) (idx : IVec S8192x1 32) :
    scatter_S1024_S8192x1_S8192_n_0_0_1.start (ix1 e) idx 0 = (idx (ix2 e (0 : Fin 1))).toInt := by
  have hm : (0 : Fin 1) ∈ scatter_S1024_S8192x1_S8192_n_0_0_1.scatterDimsToOperandDims := List.mem_singleton.2 rfl
  refine (dif_pos hm).trans (congrArg (fun t => (idx t).toInt) (funext fun b => ?_))
  match b with
  | ⟨0, _⟩ => rfl
  | ⟨1, _⟩ => rfl

/-- Element `(e, x)` of the updates lands at `(r, c)` when row `e`'s index is `r` and `x` is `c`. -/
theorem row_lands (idx : IVec S8192x1 32) (e : Fin 8192) (x : Fin 1024) (r c : Fin 1024) :
    scatter_S1024x1024_S8192x1_S8192x1024_1_0_0_1.resultIdx? (ix2 e x) idx = some (ix2 r c)
      ↔ (idx (ix2 e (0 : Fin 1))).toInt = r.val ∧ x = c := by
  refine (resultIdx?_ix2 (R := 1024) (C := 1024) scatter_S1024x1024_S8192x1_S8192x1024_1_0_0_1 (ix2 e x) idx r c).trans ?_
  have h0 : scatter_S1024x1024_S8192x1_S8192x1024_1_0_0_1.window (ix2 e x) 0 = 0 := rfl
  have h1 : scatter_S1024x1024_S8192x1_S8192x1024_1_0_0_1.start (ix2 e x) idx 1 = 0 := rfl
  have h2 : scatter_S1024x1024_S8192x1_S8192x1024_1_0_0_1.window (ix2 e x) 1 = x.val := rfl
  rw [row_start, h0, h1, h2]
  show (idx (ix2 e (0 : Fin 1))).toInt + ((0 : ℕ) : ℤ) = _ ∧ _ ↔ _
  rw [Fin.ext_iff]
  omega

/-- Element `e` of the updates lands at `r` when its index is `r`. -/
theorem vec_lands (idx : IVec S8192x1 32) (e : Fin 8192) (r : Fin 1024) :
    scatter_S1024_S8192x1_S8192_n_0_0_1.resultIdx? (ix1 e) idx = some (ix1 r) ↔ (idx (ix2 e (0 : Fin 1))).toInt = r.val := by
  refine (resultIdx?_ix1 (N := 1024) scatter_S1024_S8192x1_S8192_n_0_0_1 (ix1 e) idx r).trans ?_
  have h0 : scatter_S1024_S8192x1_S8192_n_0_0_1.window (ix1 e) 0 = 0 := rfl
  rw [vec_start, h0]
  show (idx (ix2 e (0 : Fin 1))).toInt + ((0 : ℕ) : ℤ) = _ ↔ _
  omega

/-- A scattered sum of rows, at `(r, c)`: what was there and column `c` of the rows whose index is `r`. -/
theorem row_scatter (x : FVec Ideal S1024x1024 .f32) (idx : IVec S8192x1 32) (upd : FVec Ideal S8192x1024 .f32) (r c : Fin 1024) :
    Host.scatterAdd scatter_S1024x1024_S8192x1_S8192x1024_1_0_0_1 x idx upd (ix2 r c)
      = (x (ix2 r c) + ∑ e : Fin 8192 with (idx (ix2 e (0 : Fin 1))).toInt = r.val, (upd (ix2 e c) : EReal) : EReal) := by
  unfold Host.scatterAdd
  rw [Ideal.hostScatterAdd_def]
  unfold Ideal.hostScatterAdd
  refine congrArg (fun t : EReal => (x (ix2 r c) : EReal) + t) ?_
  have hl : ∀ j : S8192x1024.Idx, scatter_S1024x1024_S8192x1_S8192x1024_1_0_0_1.resultIdx? j idx = some (ix2 r c)
      → (idx (ix2 (j 0) (0 : Fin 1))).toInt = r.val ∧ j = ix2 (j 0) c := fun j hj => by
    have h := (row_lands idx (j 0) (j 1) r c).1 ((congrArg (fun t => scatter_S1024x1024_S8192x1_S8192x1024_1_0_0_1.resultIdx? t idx) (eq_ix2 j)).symm.trans hj)
    exact ⟨h.1, (eq_ix2 j).trans (congrArg (ix2 (j 0)) h.2)⟩
  refine sum_bij' (fun j _ => j 0) (fun e _ => ix2 e c) (fun j hj => ?_) (fun e he => ?_) (fun j hj => ?_) (fun e _ => rfl) (fun j hj => ?_)
  · exact mem_filter.2 ⟨mem_univ _, (hl j (mem_filter.1 hj).2).1⟩
  · exact mem_filter.2 ⟨mem_univ _, (row_lands _ _ _ _ _).2 ⟨(mem_filter.1 he).2, rfl⟩⟩
  · exact (hl j (mem_filter.1 hj).2).2.symm
  · exact congrArg upd (hl j (mem_filter.1 hj).2).2

/-- A scattered sum of numbers, at `r`. -/
theorem vec_scatter (x : FVec Ideal S1024 .f32) (idx : IVec S8192x1 32) (upd : FVec Ideal S8192 .f32) (r : Fin 1024) :
    Host.scatterAdd scatter_S1024_S8192x1_S8192_n_0_0_1 x idx upd (ix1 r)
      = (x (ix1 r) + ∑ e : Fin 8192 with (idx (ix2 e (0 : Fin 1))).toInt = r.val, (upd (ix1 e) : EReal) : EReal) := by
  unfold Host.scatterAdd
  rw [Ideal.hostScatterAdd_def]
  unfold Ideal.hostScatterAdd
  refine congrArg (fun t : EReal => (x (ix1 r) : EReal) + t) ?_
  refine sum_bij' (fun j _ => j 0) (fun e _ => ix1 e) (fun j hj => ?_) (fun e he => ?_) (fun j hj => ?_) (fun e _ => rfl) (fun j hj => ?_)
  · exact mem_filter.2 ⟨mem_univ _, (vec_lands idx (j 0) r).1
      ((congrArg (fun t => scatter_S1024_S8192x1_S8192_n_0_0_1.resultIdx? t idx) (eq_ix1 j)).symm.trans (mem_filter.1 hj).2)⟩
  · exact mem_filter.2 ⟨mem_univ _, (vec_lands _ _ _).2 (mem_filter.1 he).2⟩
  · exact (eq_ix1 j).symm
  · exact congrArg upd (eq_ix1 j)

/-- The gather of single elements by pairs of index words reads the element that the pair names. -/
theorem pair_gather (x : FVec Ideal S1024x1024 .f32) (idx : IVec S1024x2 32) (p r c : Fin 1024)
    (h0 : idx (ix2 p (0 : Fin 2)) = BitVec.ofNat 32 r.val) (h1 : idx (ix2 p (1 : Fin 2)) = BitVec.ofNat 32 c.val) :
    Host.gather gather_S1024x1024_S1024x2_S1024_n_01_n_n_01_1_11 x idx (ix1 p) = x (ix2 r c) := by
  unfold Host.gather
  refine congrArg x (funext fun a => Fin.ext ?_)
  have hst : ∀ q : Fin 2, gather_S1024x1024_S1024x2_S1024_n_01_n_n_01_1_11.start (ix1 p) idx q = min (idx (ix2 p q)).toInt.toNat 1023 := fun q => by
    have hm : q ∈ gather_S1024x1024_S1024x2_S1024_n_01_n_n_01_1_11.startIndexMap :=
      show q ∈ [(0 : Fin 2), 1] by match q with
        | ⟨0, _⟩ => exact List.mem_cons_self
        | ⟨1, _⟩ => exact List.mem_cons_of_mem _ (List.mem_singleton.2 rfl)
    refine (dif_pos hm).trans ?_
    match q with
    | ⟨0, _⟩ =>
      refine congrArg (fun t => min (idx t).toInt.toNat 1023) (funext fun b => ?_)
      match b with
      | ⟨0, _⟩ => rfl
      | ⟨1, _⟩ => rfl
    | ⟨1, _⟩ =>
      refine congrArg (fun t => min (idx t).toInt.toNat 1023) (funext fun b => ?_)
      match b with
      | ⟨0, _⟩ => rfl
      | ⟨1, _⟩ => rfl
  have key : ∀ (w : BitVec 32) (n : Fin 1024), w = BitVec.ofNat 32 n.val → min w.toInt.toNat 1023 = n.val := fun w n h => by
    rw [h, StableHlo.Predicate.toInt_ofNat_small _ (by omega)]
    omega
  match a with
  | ⟨0, _⟩ =>
    show gather_S1024x1024_S1024x2_S1024_n_01_n_n_01_1_11.start (ix1 p) idx 0 + 0 + 0 = r.val
    exact (hst 0).trans (key _ _ h0)
  | ⟨1, _⟩ =>
    show gather_S1024x1024_S1024x2_S1024_n_01_n_n_01_1_11.start (ix1 p) idx 1 + 0 + 0 = c.val
    exact (hst 1).trans (key _ _ h1)

end Cert.Proof.Ref

end
-- ==== Proof.RefStep.lean ====
/-
  The reference's steps at one element: the degrees, the identity it starts from, one message-passing step (the product
  with the transition matrix) and the diagonal it keeps of each power.
-/
module

public import proofs.«01_k».proof.Proof.RefOps
public import proofs.«01_k».proof.Proof.Nodes
public import Idealize.ShloMosaic.Lib.Pointwise.SelectCore

@[expose] public section

noncomputable section

namespace Cert.Proof.Ref

open Cert.ReferenceIdeal Cert.ReferenceIdeal.Gen
open Idealize.ShloMosaic hiding ix1 ix2
open Idealize.ShloMosaic.ValueIdx Idealize.ShloMosaic.Routing
open Finset Cert.Proof.Walk

/-- An index list as the gathers read it: a negative entry counted from the end. -/
def column (s : IVec S8192 32) : IVec S8192x1 32 :=
  broadcastInDim S8192x1 ![0] bcast_S8192_S8192x1_0 (select (cmpi .slt s (broadcastInDim S8192 ![] bcast_S_S8192 (constantI S_ 32 0#32)))
    (addi s (broadcastInDim S8192 ![] bcast_S_S8192 (constantI S_ 32 1024#32))) s)

/-- The outgoing edges of each node, at least one. -/
def degrees (s : IVec S8192 32) : FVec Ideal S1024 .f32 :=
  maximumf (Host.scatterAdd scatter_S1024_S8192x1_S8192_n_0_0_1 (broadcastInDim S1024 ![] bcast_S_S1024 (constant S_ .f32 0x00000000#32)) (broadcastInDim S8192x1 ![0] bcast_S8192_S8192x1_0 s) (broadcastInDim S8192 ![] bcast_S_S8192 (constant S_ .f32 0x3F800000#32))) (broadcastInDim S1024 ![] bcast_S_S1024 (constant S_ .f32 0x3F800000#32))

/-- One message-passing step. -/
def passed (s r : IVec S8192 32) (P : FVec Ideal S1024x1024 .f32) : FVec Ideal S1024x1024 .f32 :=
  Host.scatterAdd scatter_S1024x1024_S8192x1_S8192x1024_1_0_0_1 (broadcastInDim S1024x1024 ![] bcast_S_S1024x1024 (constant S_ .f32 0x00000000#32)) (broadcastInDim S8192x1 ![0] bcast_S8192_S8192x1_0 r)
    (Host.divf (Host.gather gather_S1024x1024_S8192x1_S8192x1024_1_0_n_n_0_1_11024 P (column s))
      (broadcastInDim S8192x1024 ![0, 1] bcast_S8192x1_S8192x1024_0_1 (broadcastInDim S8192x1 ![0] bcast_S8192_S8192x1_0 (Host.gather gather_S1024_S8192x1_S8192_n_0_n_n_0_1_1 (degrees s) (column s)))))

/-- The identity matrix. -/
def identity : FVec Ideal S1024x1024 .f32 :=
  uitofp .f32 (cmpi .eq (addi (iotaInDim S1024x1024 32 0) (broadcastInDim S1024x1024 ![] bcast_S_S1024x1024 (constantI S_ 32 0#32))) (iotaInDim S1024x1024 32 1))

/-- The places of the diagonal along one axis. -/
def places : IVec S1024x1 32 :=
  broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0))

/-- The diagonal of a matrix, as a column. -/
def diagonal (P : FVec Ideal S1024x1024 .f32) : FVec Ideal S1024x1 .f32 :=
  broadcastInDim S1024x1 ![0] bcast_S1024_S1024x1_0 (Host.gather gather_S1024x1024_S1024x2_S1024_n_01_n_n_01_1_11 P
    (concatenate S1024x2 1 [⟨S1024x1, places⟩, ⟨S1024x1, places⟩] concatenates_S1024x1_S1024x1_S1024x2_d1))

theorem column_at (s : IVec S8192 32) (h : ∀ i, (s i).toNat < 1024) (e : Fin 8192) : column s (ix2 e (0 : Fin 1)) = BitVec.ofNat 32 (node s h e).val := by
  refine ((bcCol bcast_S8192_S8192x1_0 _ e).trans ?_).trans (word_ofNat s h e)
  exact wrap_of_lt _ _ (by have := h (ix1 e); exact lt_trans this (by decide))

theorem degrees_at (s : IVec S8192 32) (h : ∀ i, (s i).toNat < 1024) (j : Fin 1024) : degrees s (ix1 j) = ((degree (node s h) j : ℝ) : EReal) := by
  refine (congrArg₂ (fun a b : EReal => max a b) (vec_scatter _ _ _ j) Ideal.ofBits_one_f32).trans ?_
  refine (congrArg (fun a : EReal => max a 1) (congrArg₂ (fun a b : EReal => a + b) Ideal.ofBits_zero_f32 (y' := ((#{e | node s h e = j} : ℝ) : EReal)) ?_)).trans ?_
  · refine Eq.trans ?_ (sum_ones _)
    refine sum_congr (filter_congr fun e _ => ?_) fun e _ => Ideal.ofBits_one_f32
    rw [← word_node s h e j]
    exact Iff.of_eq (congrArg (fun w : BitVec 32 => w.toInt = (j.val : ℤ)) (bcCol bcast_S8192_S8192x1_0 s e))
  · rw [zero_add, ← EReal.coe_one, coe_max]
    rfl

theorem passed_at (s r : IVec S8192 32) (hs : ∀ i, (s i).toNat < 1024) (hr : ∀ i, (r i).toNat < 1024) (P : FVec Ideal S1024x1024 .f32)
    (p : Matrix (Fin 1024) (Fin 1024) ℝ) (hP : ∀ i j, P (ix2 i j) = ((p i j : ℝ) : EReal)) (i j : Fin 1024) :
    passed s r P (ix2 i j) = (((step (node s hs) (node r hr) * p) i j : ℝ) : EReal) := by
  refine (row_scatter _ _ _ i j).trans ?_
  refine (congrArg₂ (fun a b : EReal => a + b) Ideal.ofBits_zero_f32 rfl).trans ?_
  rw [← step_mul, coe_sum, zero_add]
  refine sum_congr (filter_congr fun e _ => ?_) fun e _ => ?_
  · rw [← word_node r hr e i]
    exact Iff.of_eq (congrArg (fun w : BitVec 32 => w.toInt = (i.val : ℤ)) (bcCol bcast_S8192_S8192x1_0 r e))
  · have hx : Host.gather gather_S1024x1024_S8192x1_S8192x1024_1_0_n_n_0_1_11024 P (column s) (ix2 e j) = ((p (node s hs e) j : ℝ) : EReal) :=
      (gather_row gather_S1024x1024_S8192x1_S8192x1024_1_0_n_n_0_1_11024 rfl rfl rfl rfl rfl P _ e j (node s hs e) (column_at s hs e) (by decide)).trans (hP _ _)
    have hd : broadcastInDim S8192x1024 ![0, 1] bcast_S8192x1_S8192x1024_0_1 (broadcastInDim S8192x1 ![0] bcast_S8192_S8192x1_0 (Host.gather gather_S1024_S8192x1_S8192_n_0_n_n_0_1_1 (degrees s) (column s))) (ix2 e j)
        = ((degree (node s hs) (node s hs e) : ℝ) : EReal) :=
      (bcRows bcast_S8192_S8192x1_0 bcast_S8192x1_S8192x1024_0_1 _ e j).trans
        ((gather_take1 gather_S1024_S8192x1_S8192_n_0_n_n_0_1_1 rfl rfl rfl rfl _ _ e (node s hs e) (column_at s hs e) (by decide)).trans (degrees_at s hs _))
    have hq : ∀ A B : FVec Ideal S8192x1024 .f32, Host.divf A B (ix2 e j) = Ideal.div (A (ix2 e j)) (B (ix2 e j)) := fun _ _ => rfl
    rw [hq, hx, hd]
    exact coe_div (degree_pos _ _).ne'

theorem identity_at (i j : Fin 1024) : identity (ix2 i j) = (((1 : Matrix (Fin 1024) (Fin 1024) ℝ) i j : ℝ) : EReal) := by
  have h : cmpi .eq (addi (iotaInDim S1024x1024 32 0) (broadcastInDim S1024x1024 ![] bcast_S_S1024x1024 (constantI S_ 32 0#32))) (iotaInDim S1024x1024 32 1) (ix2 i j)
      = BitVec.ofBool (decide (i = j)) := by
    refine (WordCmp.cmpi_eq_eq _ _).trans (congrArg BitVec.ofBool (decide_eq_decide.2 ?_))
    show BitVec.ofNat 32 i.val + 0#32 = BitVec.ofNat 32 j.val ↔ i = j
    rw [BitVec.add_zero, WordCmp.ofNat_eq_ofNat_iff (by omega) (by omega), Fin.ext_iff]
  refine (congrArg (fun b : BitVec 1 => (((b.toNat : ℕ) : ℝ) : EReal)) h).trans ?_
  by_cases e : i = j
  · subst e; simp
  · simp [e]

theorem places_at (i : Fin 1024) : places (ix2 i (0 : Fin 1)) = BitVec.ofNat 32 i.val := by
  refine (bcCol bcast_S1024_S1024x1_0 _ i).trans (wrap_of_lt _ _ ?_)
  show (BitVec.ofNat 32 i.val).toNat < 2 ^ 31
  rw [WordCmp.toNat_ofNat_of_lt (by omega)]
  omega

theorem places_left (i : Fin 1024) : concatenate S1024x2 1 [⟨S1024x1, places⟩, ⟨S1024x1, places⟩] concatenates_S1024x1_S1024x1_S1024x2_d1 (ix2 i (0 : Fin 2)) = BitVec.ofNat 32 i.val := by
  rw [concatenate_pair_apply]
  exact places_at i

theorem places_right (i : Fin 1024) : concatenate S1024x2 1 [⟨S1024x1, places⟩, ⟨S1024x1, places⟩] concatenates_S1024x1_S1024x1_S1024x2_d1 (ix2 i (1 : Fin 2)) = BitVec.ofNat 32 i.val := by
  rw [concatenate_pair_apply]
  exact places_at i

theorem diagonal_at (P : FVec Ideal S1024x1024 .f32) (i : Fin 1024) : diagonal P (ix2 i (0 : Fin 1)) = P (ix2 i i) := by
  refine (bcCol bcast_S1024_S1024x1_0 _ i).trans ?_
  exact pair_gather P _ i i i (places_left i) (places_right i)

end Cert.Proof.Ref

end
-- ==== Proof.RefValue.lean ====
/-
  The reference's result at one element. Its eight matrices are the powers one to eight of the transition matrix; the
  eight columns it joins are their diagonals; the result is their product with the weights, plus the bias.
-/
module

public import proofs.«01_k».proof.Proof.RefStep
public import proofs.«01_k».proof.Proof.Gen.ReferenceIdeal.Run
public import Idealize.ShloMosaic.Lib.Pointwise.Tactic
public import Idealize.ShloMosaic.Lib.Pointwise.Contract

@[expose] public section

noncomputable section

namespace Cert.Proof.Ref

open Cert.ReferenceIdeal Cert.ReferenceIdeal.Gen Cert.ReferenceIdeal.Value
open Idealize.ShloMosaic hiding ix1 ix2
open Idealize.ShloMosaic.ValueIdx Idealize.ShloMosaic.TcCoe Idealize.ShloMosaic.StableHlo
open Finset Cert.Proof.Walk

/-- The matrix after a number of message-passing steps. -/
def steps (s r : IVec S8192 32) : ℕ → FVec Ideal S1024x1024 .f32
  | 0 => identity
  | n + 1 => passed s r (steps s r n)

theorem steps_at (s r : IVec S8192 32) (hs : ∀ i, (s i).toNat < 1024) (hr : ∀ i, (r i).toNat < 1024) (n : ℕ) :
    ∀ i j : Fin 1024, steps s r n (ix2 i j) = (((step (node s hs) (node r hr) ^ n) i j : ℝ) : EReal) := by
  induction n with
  | zero => intro i j; rw [pow_zero]; exact identity_at i j
  | succ n ih => intro i j; rw [pow_succ']; exact passed_at s r hs hr _ _ ih i j

/-- The diagonals of the eight powers, side by side. -/
def diagonals (s r : IVec S8192 32) : FVec Ideal S1024x8 .f32 :=
  concatenate S1024x8 1 [⟨S1024x1, diagonal (steps s r 1)⟩, ⟨S1024x1, diagonal (steps s r 2)⟩, ⟨S1024x1, diagonal (steps s r 3)⟩, ⟨S1024x1, diagonal (steps s r 4)⟩,
    ⟨S1024x1, diagonal (steps s r 5)⟩, ⟨S1024x1, diagonal (steps s r 6)⟩, ⟨S1024x1, diagonal (steps s r 7)⟩, ⟨S1024x1, diagonal (steps s r 8)⟩]
    concatenates_S1024x1_S1024x1_S1024x1_S1024x1_S1024x1_S1024x1_S1024x1_S1024x1_S1024x8_d1

/-- Eight columns side by side, read at one element. -/
theorem joined_at (x : Fin 8 → FVec Ideal S1024x1 .f32) (i : Fin 1024) (k : Fin 8) :
    concatenate S1024x8 1 [⟨S1024x1, x 0⟩, ⟨S1024x1, x 1⟩, ⟨S1024x1, x 2⟩, ⟨S1024x1, x 3⟩, ⟨S1024x1, x 4⟩, ⟨S1024x1, x 5⟩, ⟨S1024x1, x 6⟩, ⟨S1024x1, x 7⟩] concatenates_S1024x1_S1024x1_S1024x1_S1024x1_S1024x1_S1024x1_S1024x1_S1024x1_S1024x8_d1 (ix2 i k) = x k (ix2 i (0 : Fin 1)) :=
  concatenate_ofFn_unit_apply (t := S1024x8) (s₁ := S1024x1) 1 x concatenates_S1024x1_S1024x1_S1024x1_S1024x1_S1024x1_S1024x1_S1024x1_S1024x1_S1024x8_d1
    rfl rfl (ix2 i k) k rfl (ix2 i (0 : Fin 1)) fun b hb => by
      match b with
      | ⟨0, _⟩ => rfl
      | ⟨1, _⟩ => exact absurd rfl hb

theorem diagonals_at (s r : IVec S8192 32) (i : Fin 1024) (k : Fin 8) : diagonals s r (ix2 i k) = steps s r (k.val + 1) (ix2 i i) :=
  (joined_at (fun k => diagonal (steps s r (k.val + 1))) i k).trans (diagonal_at _ i)

variable (V0 : Valuation τ sig (Elt Ideal))

theorem v5_eq : res_main_v5 V0 = degrees (V0 (Proc.devRef .tc main_arg1)) := rfl
theorem v32_eq : res_main_v32 V0 = steps (V0 (Proc.devRef .tc main_arg1)) (V0 (Proc.devRef .tc main_arg2)) 1 := rfl
theorem v66_eq : res_main_v66 V0 = steps (V0 (Proc.devRef .tc main_arg1)) (V0 (Proc.devRef .tc main_arg2)) 2 := by
  unfold res_main_v66; rw [v32_eq]; rfl
theorem v100_eq : res_main_v100 V0 = steps (V0 (Proc.devRef .tc main_arg1)) (V0 (Proc.devRef .tc main_arg2)) 3 := by
  unfold res_main_v100; rw [v66_eq]; rfl
theorem v134_eq : res_main_v134 V0 = steps (V0 (Proc.devRef .tc main_arg1)) (V0 (Proc.devRef .tc main_arg2)) 4 := by
  unfold res_main_v134; rw [v100_eq]; rfl
theorem v168_eq : res_main_v168 V0 = steps (V0 (Proc.devRef .tc main_arg1)) (V0 (Proc.devRef .tc main_arg2)) 5 := by
  unfold res_main_v168; rw [v134_eq]; rfl
theorem v202_eq : res_main_v202 V0 = steps (V0 (Proc.devRef .tc main_arg1)) (V0 (Proc.devRef .tc main_arg2)) 6 := by
  unfold res_main_v202; rw [v168_eq]; rfl
theorem v236_eq : res_main_v236 V0 = steps (V0 (Proc.devRef .tc main_arg1)) (V0 (Proc.devRef .tc main_arg2)) 7 := by
  unfold res_main_v236; rw [v202_eq]; rfl

theorem v293_eq : res_main_v293 V0 = diagonals (V0 (Proc.devRef .tc main_arg1)) (V0 (Proc.devRef .tc main_arg2)) := by
  have e1 := v32_eq V0
  have e2 := v66_eq V0
  have e3 := v100_eq V0
  have e4 := v134_eq V0
  have e5 := v168_eq V0
  have e6 := v202_eq V0
  have e7 := v236_eq V0
  unfold res_main_v293
  rw [e1, e2, e3, e4, e5, e6, e7]
  rfl

/-- The product of the diagonals with the weights, plus the bias. -/
def result (s r : IVec S8192 32) (w : FVec Ideal S8x128 .f32) (b : FVec Ideal S128 .f32) : FVec Ideal S1024x128 .f32 :=
  addf (Host.dotGeneral dot_S1024x8_S8x128_S1024x128_1_0_0_1_n_n none (diagonals s r) w)
    (broadcastInDim S1024x128 ![0, 1] bcast_S1x128_S1024x128_0_1 (broadcastInDim S1x128 ![1] bcast_S128_S1x128_1 b))

theorem result_at (s r : IVec S8192 32) (hs : ∀ i, (s i).toNat < 1024) (hr : ∀ i, (r i).toNat < 1024) (w : FVec Ideal S8x128 .f32) (b : FVec Ideal S128 .f32)
    (i : Fin 1024) (j : Fin 128) :
    result s r w b (ix2 i j) = (∑ k : Fin 8, (((step (node s hs) (node r hr) ^ (k.val + 1)) i i : ℝ) : EReal) * w (ix2 k j)) + b (ix1 j) := by
  unfold result
  pointwise
  refine congrArg₂ (fun a b : EReal => a + b) ?_ (congrArg b (ValueIdx.eq_ix1 _))
  exact sum_congr rfl fun k _ => congrArg (fun a : EReal => a * w (ix2 k j)) ((diagonals_at s r i k).trans (steps_at s r hs hr _ i i))

end Cert.Proof.Ref

end
-- ==== Proof.Equal.lean ====
/-
  Kernel and reference compute one result: at each element both are the weighted sum of the powers' diagonal, which they
  add up in different orders.
-/
module

public import proofs.«01_k».proof.Proof.Frames
public import proofs.«01_k».proof.Proof.CountValue
public import proofs.«01_k».proof.Proof.KernelOps
public import proofs.«01_k».proof.Proof.RefValue
public import Mathlib.Algebra.BigOperators.Fin

@[expose] public section

noncomputable section

namespace Cert.Proof

open Idealize.ShloMosaic hiding ix1 ix2 ix3
open Idealize.ShloMosaic.ValueIdx Idealize.ShloMosaic.TcCoe Idealize.SL.Sem
open Finset Cert.Proof.Walk

theorem wRow_at (w : FVec Ideal KernelIdeal.S8x128 .f32) (k : Fin 8) (j : Fin 128) : Run.wRow (F := Ideal) w k (ix2 (0 : Fin 1) j) = w (ix2 k j) :=
  congrArg w (funext fun a => match a with
    | ⟨0, _⟩ => rfl
    | ⟨1, _⟩ => rfl)

theorem readout_at (s r : IVec KernelIdeal.S8192 32) (hs : ∀ i, (s i).toNat < 1024) (hr : ∀ i, (r i).toNat < 1024) (w : FVec Ideal KernelIdeal.S8x128 .f32)
    (b : FVec Ideal KernelIdeal.S1x128 .f32) (i : Fin 1024) (j : Fin 128) :
    Run.readout (F := Ideal) (Run.counts s r) w b (ix2 i j)
      = b (ix2 (0 : Fin 1) j) + ∑ k : Fin 8, (((step (node s hs) (node r hr) ^ (k.val + 1)) i i : ℝ) : EReal) * w (ix2 k j) := by
  have h := Ker.counts_at s r hs hr
  unfold Run.readout
  rw [Ker.last_at, Ker.first_at, Ker.d1 _ _ _ _ h, Ker.d2 _ _ _ _ h, Ker.d3 _ _ _ _ h, Ker.d4 _ _ _ _ h, Ker.d5 _ _ _ _ h, Ker.d6 _ _ _ _ h, Ker.d7 _ _ _ _ h,
    Ker.d8 _ _ _ _ h]
  simp only [wRow_at, Fin.sum_univ_eight, add_assoc]
  rfl

theorem biasRow_at (b : FVec Ideal KernelIdeal.S128 .f32) (j : Fin 128) :
    shapeCast KernelIdeal.S1x128 b KernelIdeal.Facts₀.shapeCasts_S128_S1x128 (ix2 (0 : Fin 1) j) = b (ix1 j) := by
  exact Routing.cast12 (a := 1) (b := 128) (n := 128) b _ 0 j j (by simp)

/-- The two results, element by element. -/
theorem results_eq (s r : IVec KernelIdeal.S8192 32) (hs : ∀ i, (s i).toNat < 1024) (hr : ∀ i, (r i).toNat < 1024) (w : FVec Ideal KernelIdeal.S8x128 .f32)
    (b : FVec Ideal KernelIdeal.S128 .f32) :
    Ref.result s r w b = Run.readout (F := Ideal) (Run.counts s r) w (shapeCast KernelIdeal.S1x128 b KernelIdeal.Facts₀.shapeCasts_S128_S1x128) := by
  funext x
  obtain ⟨i, j, rfl⟩ : ∃ (i : Fin 1024) (j : Fin 128), x = ix2 i j := ⟨x 0, x 1, ValueIdx.eq_ix2 x⟩
  refine (Ref.result_at s r hs hr w b i j).trans (Eq.trans ?_ (readout_at s r hs hr w _ i j).symm)
  rw [biasRow_at, add_comm]

theorem algebraic : Cert.algebraic_KernelIdeal_ReferenceIdeal := by
  intro m g m' g' hpre harg
  refine ⟨Run.out (F := Ideal) m, (θ_run KernelIdeal.defs _ _).mono (fun _ h => h.1) (Run.run_main m g (preOK_kernelIdeal m hpre)),
    (θ_run ReferenceIdeal.defs _ _).mono (fun r h c => ⟨(h c).1.trans ?_, (h c).2⟩) (ReferenceIdeal.Value.run (F := Ideal) m' g')⟩
  obtain ⟨hs, hr⟩ := edges_of_pre _ _ _ _ _ (hpre c)
  obtain ⟨-, a1, a2, a3, a4⟩ := harg c
  refine Eq.trans ?_ (results_eq _ _ hs hr _ _)
  rw [Ref.v293_eq]
  change Ref.result (StableHlo.launchContents m' c (Proc.devRef .tc ReferenceIdeal.main_arg1)) (StableHlo.launchContents m' c (Proc.devRef .tc ReferenceIdeal.main_arg2)) (StableHlo.launchContents m' c (Proc.devRef .tc ReferenceIdeal.main_arg3)) (StableHlo.launchContents m' c (Proc.devRef .tc ReferenceIdeal.main_arg4)) = _
  exact congr (congr (congr (congrArg Ref.result a1) a2) a3) a4

end Cert.Proof

end
-- ==== Proof.lean ====
/-
  The certificate's claim, from the frames of the three programs and the equation of kernel and reference.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
